-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_v24) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x100000 : Shape := ⟨2, ![256, 100000]⟩
abbrev S256 : Shape := ⟨1, ![256]⟩
abbrev S256x12 : Shape := ⟨2, ![256, 12]⟩
abbrev S256x1 : Shape := ⟨2, ![256, 1]⟩
abbrev S32x1x8 : Shape := ⟨3, ![32, 1, 8]⟩
abbrev S256x13 : Shape := ⟨2, ![256, 13]⟩
abbrev S8x100000 : Shape := ⟨2, ![8, 100000]⟩
abbrev S8x1 : Shape := ⟨2, ![8, 1]⟩
abbrev S8x12 : Shape := ⟨2, ![8, 12]⟩
abbrev S1x1x8 : Shape := ⟨3, ![1, 1, 8]⟩
abbrev S8x13 : Shape := ⟨2, ![8, 13]⟩
abbrev S8 : Shape := ⟨1, ![8]⟩
abbrev S1x8 : Shape := ⟨2, ![1, 8]⟩
abbrev S1x8x100000 : Shape := ⟨3, ![1, 8, 100000]⟩
abbrev S1 : Shape := ⟨1, ![1]⟩
abbrev S1x1x1 : Shape := ⟨3, ![1, 1, 1]⟩
abbrev S8x8 : Shape := ⟨2, ![8, 8]⟩
abbrev S_ : Shape := ⟨0, ![]⟩
abbrev S32x8 : Shape := ⟨2, ![32, 8]⟩

abbrev nBuf : Space → Nat
  | .hbm => 17
  | .vmem => 16
  | .smem => 0
  | _ => 0

abbrev bufTy : (tb : Table) → Fin (tcTables nBuf tb) → BufTy
  | .hbm, ⟨0, _⟩ => ⟨S256x100000, .f32⟩
  | .hbm, ⟨1, _⟩ => ⟨S256, .f32⟩
  | .hbm, ⟨2, _⟩ => ⟨S256x12, .i32⟩
  | .hbm, ⟨3, _⟩ => ⟨S256x1, .f32⟩
  | .hbm, ⟨4, _⟩ => ⟨S32x1x8, .f32⟩
  | .hbm, ⟨5, _⟩ => ⟨S32x1x8, .f32⟩
  | .hbm, ⟨6, _⟩ => ⟨S256x13, .i32⟩
  | .hbm, ⟨7, _⟩ => ⟨S32x1x8, .i32⟩
  | .hbm, ⟨8, _⟩ => ⟨S32x1x8, .i32⟩
  | .hbm, ⟨9, _⟩ => ⟨S_, .i32⟩
  | .hbm, ⟨10, _⟩ => ⟨S32x1x8, .i32⟩
  | .hbm, ⟨11, _⟩ => ⟨S32x1x8, .i1⟩
  | .hbm, ⟨12, _⟩ => ⟨S32x1x8, .i1⟩
  | .hbm, ⟨13, _⟩ => ⟨S32x8, .f32⟩
  | .hbm, ⟨14, _⟩ => ⟨S32x8, .f32⟩
  | .hbm, ⟨15, _⟩ => ⟨S256, .i32⟩
  | .hbm, ⟨16, _⟩ => ⟨S32x8, .i1⟩
  | .local _ .vmem, ⟨0, _⟩ => ⟨S8x100000, .f32⟩
  | .local _ .vmem, ⟨1, _⟩ => ⟨S8x100000, .f32⟩
  | .local _ .vmem, ⟨2, _⟩ => ⟨S8x1, .f32⟩
  | .local _ .vmem, ⟨3, _⟩ => ⟨S8x1, .f32⟩
  | .local _ .vmem, ⟨4, _⟩ => ⟨S8x12, .i32⟩
  | .local _ .vmem, ⟨5, _⟩ => ⟨S8x12, .i32⟩
  | .local _ .vmem, ⟨6, _⟩ => ⟨S1x1x8, .f32⟩
  | .local _ .vmem, ⟨7, _⟩ => ⟨S1x1x8, .f32⟩
  | .local _ .vmem, ⟨8, _⟩ => ⟨S1x1x8, .f32⟩
  | .local _ .vmem, ⟨9, _⟩ => ⟨S1x1x8, .f32⟩
  | .local _ .vmem, ⟨10, _⟩ => ⟨S8x13, .i32⟩
  | .local _ .vmem, ⟨11, _⟩ => ⟨S8x13, .i32⟩
  | .local _ .vmem, ⟨12, _⟩ => ⟨S1x1x8, .i32⟩
  | .local _ .vmem, ⟨13, _⟩ => ⟨S1x1x8, .i32⟩
  | .local _ .vmem, ⟨14, _⟩ => ⟨S1x1x8, .i32⟩
  | .local _ .vmem, ⟨15, _⟩ => ⟨S1x1x8, .i32⟩
  | _, _ => ⟨S256x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x12 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x13 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x8 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x8 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S256x100000 : Shape := ⟨2, ![256, 100000]⟩
abbrev S256 : Shape := ⟨1, ![256]⟩
abbrev S256x12 : Shape := ⟨2, ![256, 12]⟩
abbrev S256x1 : Shape := ⟨2, ![256, 1]⟩
abbrev S_ : Shape := ⟨0, ![]⟩
abbrev S1 : Shape := ⟨1, ![1]⟩
abbrev S32x800000 : Shape := ⟨2, ![32, 800000]⟩
abbrev S32x8 : Shape := ⟨2, ![32, 8]⟩
abbrev S32 : Shape := ⟨1, ![32]⟩
abbrev S32x1 : Shape := ⟨2, ![32, 1]⟩
abbrev S1x1 : Shape := ⟨2, ![1, 1]⟩
abbrev S256x13 : Shape := ⟨2, ![256, 13]⟩

abbrev nBuf : Space → Nat
  | .hbm => 96
  | .vmem => 0
  | .smem => 0
  | _ => 0

abbrev bufTy : (tb : Table) → Fin (tcTables nBuf tb) → BufTy
  | .hbm, ⟨0, _⟩ => ⟨S256x100000, .f32⟩
  | .hbm, ⟨1, _⟩ => ⟨S256, .f32⟩
  | .hbm, ⟨2, _⟩ => ⟨S256x12, .i32⟩
  | .hbm, ⟨3, _⟩ => ⟨S256x1, .f32⟩
  | .hbm, ⟨4, _⟩ => ⟨S256x100000, .f32⟩
  | .hbm, ⟨5, _⟩ => ⟨S256x100000, .f32⟩
  | .hbm, ⟨6, _⟩ => ⟨S_, .i32⟩
  | .hbm, ⟨7, _⟩ => ⟨S1, .i32⟩
  | .hbm, ⟨8, _⟩ => ⟨S_, .f32⟩
  | .hbm, ⟨9, _⟩ => ⟨S256, .f32⟩
  | .hbm, ⟨10, _⟩ => ⟨S256x100000, .f32⟩
  | .hbm, ⟨11, _⟩ => ⟨S32x800000, .f32⟩
  | .hbm, ⟨12, _⟩ => ⟨S32x8, .f32⟩
  | .hbm, ⟨13, _⟩ => ⟨S32x8, .i32⟩
  | .hbm, ⟨14, _⟩ => ⟨S_, .f32⟩
  | .hbm, ⟨15, _⟩ => ⟨S32x8, .f32⟩
  | .hbm, ⟨16, _⟩ => ⟨S32x8, .f32⟩
  | .hbm, ⟨17, _⟩ => ⟨S_, .i32⟩
  | .hbm, ⟨18, _⟩ => ⟨S_, .i32⟩
  | .hbm, ⟨19, _⟩ => ⟨S32x8, .i32⟩
  | .hbm, ⟨20, _⟩ => ⟨S32x8, .i32⟩
  | .hbm, ⟨21, _⟩ => ⟨S32x8, .i32⟩
  | .hbm, ⟨22, _⟩ => ⟨S_, .i32⟩
  | .hbm, ⟨23, _⟩ => ⟨S32x8, .i32⟩
  | .hbm, ⟨24, _⟩ => ⟨S32x8, .i1⟩
  | .hbm, ⟨25, _⟩ => ⟨S32x8, .i32⟩
  | .hbm, ⟨26, _⟩ => ⟨S32x8, .i32⟩
  | .hbm, ⟨27, _⟩ => ⟨S_, .i32⟩
  | .hbm, ⟨28, _⟩ => ⟨S32x8, .i32⟩
  | .hbm, ⟨29, _⟩ => ⟨S32x8, .i1⟩
  | .hbm, ⟨30, _⟩ => ⟨S32x8, .i1⟩
  | .hbm, ⟨31, _⟩ => ⟨S_, .i32⟩
  | .hbm, ⟨32, _⟩ => ⟨S32x8, .i32⟩
  | .hbm, ⟨33, _⟩ => ⟨S32x8, .i32⟩
  | .hbm, ⟨34, _⟩ => ⟨S32x8, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S32x8, .i32⟩
  | .hbm, ⟨42, _⟩ => ⟨S32x8, .i32⟩
  | .hbm, ⟨43, _⟩ => ⟨S_, .i32⟩
  | .hbm, ⟨44, _⟩ => ⟨S32x8, .i32⟩
  | .hbm, ⟨45, _⟩ => ⟨S32x8, .i1⟩
  | .hbm, ⟨46, _⟩ => ⟨S_, .i32⟩
  | .hbm, ⟨47, _⟩ => ⟨S32x8, .i32⟩
  | .hbm, ⟨48, _⟩ => ⟨S32x8, .i1⟩
  | .hbm, ⟨49, _⟩ => ⟨S_, .i32⟩
  | .hbm, ⟨50, _⟩ => ⟨S_, .i1⟩
  | .hbm, ⟨51, _⟩ => ⟨S32x8, .i1⟩
  | .hbm, ⟨52, _⟩ => ⟨S32x8, .i1⟩
  | .hbm, ⟨53, _⟩ => ⟨S32x8, .i1⟩
  | .hbm, ⟨54, _⟩ => ⟨S32x8, .i32⟩
  | .hbm, ⟨55, _⟩ => ⟨S32x8, .i32⟩
  | .hbm, ⟨56, _⟩ => ⟨S32x8, .i32⟩
  | .hbm, ⟨57, _⟩ => ⟨S32, .i32⟩
  | .hbm, ⟨58, _⟩ => ⟨S_, .i32⟩
  | .hbm, ⟨59, _⟩ => ⟨S32, .i32⟩
  | .hbm, ⟨60, _⟩ => ⟨S32, .i32⟩
  | .hbm, ⟨61, _⟩ => ⟨S_, .i32⟩
  | .hbm, ⟨62, _⟩ => ⟨S32, .i32⟩
  | .hbm, ⟨63, _⟩ => ⟨S32, .i32⟩
  | .hbm, ⟨64, _⟩ => ⟨S32x1, .i32⟩
  | .hbm, ⟨65, _⟩ => ⟨S32x8, .i32⟩
  | .hbm, ⟨66, _⟩ => ⟨S32x8, .i32⟩
  | .hbm, ⟨67, _⟩ => ⟨S256, .i32⟩
  | .hbm, ⟨68, _⟩ => ⟨S_, .i32⟩
  | .hbm, ⟨69, _⟩ => ⟨S256, .i32⟩
  | .hbm, ⟨70, _⟩ => ⟨S256, .i1⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S256, .i32⟩
  | .hbm, ⟨75, _⟩ => ⟨S256x1, .i32⟩
  | .hbm, ⟨76, _⟩ => ⟨S1, .i32⟩
  | .hbm, ⟨77, _⟩ => ⟨S_, .i32⟩
  | .hbm, ⟨78, _⟩ => ⟨S256x1, .i32⟩
  | .hbm, ⟨79, _⟩ => ⟨S256x1, .i1⟩
  | .hbm, ⟨80, _⟩ => ⟨S1x1, .i32⟩
  | .hbm, ⟨81, _⟩ => ⟨S256x1, .i32⟩
  | .hbm, ⟨82, _⟩ => ⟨S256x1, .i1⟩
  | .hbm, ⟨83, _⟩ => ⟨S256x1, .i1⟩
  | .hbm, ⟨84, _⟩ => ⟨S_, .i1⟩
  | .hbm, ⟨85, _⟩ => ⟨S256, .i1⟩
  | .hbm, ⟨86, _⟩ => ⟨S256x12, .i32⟩
  | .hbm, ⟨87, _⟩ => ⟨S256x12, .i1⟩
  | .hbm, ⟨88, _⟩ => ⟨S_, .i32⟩
  | .hbm, ⟨89, _⟩ => ⟨S256x12, .i32⟩
  | .hbm, ⟨90, _⟩ => ⟨S256x12, .i32⟩
  | .hbm, ⟨91, _⟩ => ⟨S256x1, .i32⟩
  | .hbm, ⟨92, _⟩ => ⟨S256x13, .i32⟩
  | .hbm, ⟨93, _⟩ => ⟨S_, .i32⟩
  | .hbm, ⟨94, _⟩ => ⟨S32x8, .i32⟩
  | .hbm, ⟨95, _⟩ => ⟨S32x8, .i1⟩
  | _, _ => ⟨S256x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_values : Ref sig .tc := ⟨.hbm, 12, rfl⟩
abbrev main_indices : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v9 : Ref sig .tc := ⟨.hbm, 34, rfl⟩
abbrev main_c_2 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v10 : Ref sig .tc := ⟨.hbm, 56, rfl⟩
abbrev main_v11 : Ref sig .tc := ⟨.hbm, 57, rfl⟩
abbrev main_c_3 : Ref sig .tc := ⟨.hbm, 58, rfl⟩
abbrev main_v12 : Ref sig .tc := ⟨.hbm, 59, rfl⟩
abbrev main_v13 : Ref sig .tc := ⟨.hbm, 60, rfl⟩
abbrev main_c_4 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_c_4 : Ref sig .tc := ⟨.hbm, 88, rfl⟩
abbrev main_call2_v15 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_c_5 : Ref sig .tc := ⟨.hbm, 93, rfl⟩
abbrev main_v23 : Ref sig .tc := ⟨.hbm, 94, rfl⟩
abbrev main_v24 : Ref sig .tc := ⟨.hbm, 95, rfl⟩

abbrev nD : Nat := 1
abbrev τ : Topo := Topo.v7x

variable {F : FTy → Type} [FloatOps F]
-- ==== Proof.Rounds.lean ====
/- Taking the largest entry `k` times, each time at its first position and each time overwriting it with the least
   extended real, reads off the first `k` places of the stable descending sort of the entries. Nothing here names a
   program. -/
module

public import Idealize.ShloMosaic.Lib.SortPrefix
public import Idealize.ShloMosaic.Lib.PlanTiles.StableSort
public import Mathlib.Data.EReal.Basic

@[expose] public section

noncomputable section

namespace Cert.Proof.Rounds

open Idealize.ShloMosaic

variable {n k : Nat}

/-- How many entries are below entry `a`. -/
def below (f : Fin n → EReal) (a : Fin n) : Nat := (Finset.univ.filter fun b => f b < f a).card

/-- Counting the entries below orders two positions as their entries are ordered. -/
theorem below_lt_iff (f : Fin n → EReal) (a b : Fin n) : below f a < below f b ↔ f a < f b := by
  constructor
  · intro h
    by_contra hle
    refine absurd h (not_lt.mpr (Finset.card_le_card fun c hc => ?_))
    simp only [Finset.mem_filter, Finset.mem_univ, true_and] at hc ⊢
    exact lt_of_lt_of_le hc (not_lt.mp hle)
  · intro h
    refine Finset.card_lt_card ⟨fun c hc => ?_, fun hsub => ?_⟩
    · simp only [Finset.mem_filter, Finset.mem_univ, true_and] at hc ⊢
      exact hc.trans h
    · have : a ∈ Finset.univ.filter fun b' => f b' < f a := hsub (by simp [h])
      simp at this

/-- Equal counts are equal entries. -/
theorem below_eq_iff (f : Fin n → EReal) (a b : Fin n) : below f a = below f b ↔ f a = f b := by
  constructor
  · intro h
    rcases lt_trichotomy (f a) (f b) with h' | h' | h'
    · exact absurd ((below_lt_iff f a b).mpr h') (by omega)
    · exact h'
    · exact absurd ((below_lt_iff f b a).mpr h') (by omega)
  · intro h
    unfold below
    rw [h]

/-- "Larger entry first, then the earlier position", as a decision. -/
def firstLarger (f : Fin n → EReal) (a b : Fin n) : Bool :=
  decide (f b < f a) || (decide (f a = f b) && decide (a < b))

/-- "Larger entry first, then the earlier position" is a strict total order of the positions. -/
theorem firstLarger_strictTotal (f : Fin n → EReal) : StrictTotalBefore (firstLarger f) :=
  StrictTotalBefore.of_key_then_position (fun a b : EReal => decide (b < a)) f (by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

/-- The stable sort by the entries alone is the sort by the entries and then the positions. -/
theorem sortPositions_eq (f : Fin n → EReal) :
    sortPositions n (fun a b => decide (f b < f a)) = sortPositions n (firstLarger f) := by
  have hB : (fun a b : Fin n => decide (f b < f a)) = fun a b => decide (below f b < below f a) := by
    funext a b
    exact decide_eq_decide.mpr (below_lt_iff f b a).symm
  rw [hB]
  refine (firstLarger_strictTotal f).eq_stableSort_of_sorted (perm_stableSort _ _) ?_
  refine (PlanTiles.pairwise_stableSort_lex (below f) (· < ·) (List.finRange n) (List.pairwise_lt_finRange n)).imp ?_
  intro a b h
  unfold firstLarger
  simp only [Bool.or_eq_false_iff, decide_eq_false_iff_not, Bool.and_eq_false_imp, decide_eq_true_eq]
  rcases h with h | ⟨h, hlt⟩
  · have := (below_lt_iff f b a).mp h
    exact ⟨not_lt.mpr this.le, fun e => absurd e this.ne⟩
  · have := (below_eq_iff f a b).mp h
    exact ⟨by rw [this]; exact lt_irrefl _, fun _ => not_lt.mpr hlt.le⟩

/-- … position by position. -/
theorem sortedFrom_eq (f : Fin n → EReal) (i : Fin n) :
    sortedFrom (fun a b => decide (f b < f a)) i = sortedFrom (firstLarger f) i := by
  have h : ∀ l l' : List (Fin n), l = l' → ∀ (hl : l.length = n) (hl' : l'.length = n),
      l.get (i.cast hl.symm) = l'.get (i.cast hl'.symm) := by
    rintro l _ rfl _ _; rfl
  exact h _ _ (sortPositions_eq f) (length_sortPositions n _) (length_sortPositions n _)

/-- `p` is the first position holding the largest entry of `x`. -/
def FirstMax (x : Fin n → EReal) (p : Fin n) : Prop :=
  (∀ q, x q ≤ x p) ∧ ∀ q, x q = x p → p ≤ q

/-- The entries before round `r`: the positions taken in the rounds before it are overwritten with the least value. -/
def left (f : Fin n → EReal) (σ : Nat → Fin n) : Nat → Fin n → EReal
  | 0, p => f p
  | r + 1, p => if p = σ r then ⊥ else left f σ r p

/-- A position not taken before round `r` still has its entry. -/
theorem left_of_not_taken (f : Fin n → EReal) (σ : Nat → Fin n) (r : Nat) (p : Fin n) (h : ∀ j < r, σ j ≠ p) :
    left f σ r p = f p := by
  induction r with
  | zero => rfl
  | succ r ih =>
    rw [left, if_neg (fun e => h r (Nat.lt_succ_self r) e.symm)]
    exact ih fun j hj => h j (Nat.lt_succ_of_lt hj)

/-- A position taken before round `r` holds the least value. -/
theorem left_of_taken (f : Fin n → EReal) (σ : Nat → Fin n) (r j : Nat) (h : j < r) : left f σ r (σ j) = ⊥ := by
  induction r with
  | zero => omega
  | succ r ih =>
    rw [left]
    split
    · rfl
    · next hne =>
      refine ih (lt_of_le_of_ne (Nat.le_of_lt_succ h) fun e => hne (by rw [e]))

/-- With `k` entries above the least value, one of them is untaken before each of the first `k` rounds. -/
theorem exists_untaken (f : Fin n → EReal) (σ : Nat → Fin n) (e : Fin k → Fin n) (he : Function.Injective e)
    (r : Nat) (hr : r < k) : ∃ i, ∀ j < r, σ j ≠ e i := by
  classical
  by_contra hno
  push Not at hno
  choose g hg hge using hno
  have hinj : Function.Injective fun i => (⟨g i, hg i⟩ : Fin r) := fun a b hab => by
    have : g a = g b := congrArg Fin.val hab
    exact he (by rw [← hge a, ← hge b, this])
  have := Fintype.card_le_of_injective _ hinj
  simp only [Fintype.card_fin] at this
  omega

section
variable (f : Fin n → EReal) (σ : Nat → Fin n) (e : Fin k → Fin n) (he : Function.Injective e)
  (hf : ∀ i, f (e i) ≠ ⊥) (hσ : ∀ r < k, FirstMax (left f σ r) (σ r))
include he hf hσ

/-- No position is taken twice in the first `k` rounds. -/
theorem untaken (r : Nat) (hr : r < k) (j : Nat) (hj : j < r) : σ j ≠ σ r := by
  intro h
  obtain ⟨i, hi⟩ := exists_untaken f σ e he r hr
  have h1 := (hσ r hr).1 (e i)
  rw [left_of_not_taken f σ r _ hi, ← h, left_of_taken f σ r j hj] at h1
  exact hf i (le_bot_iff.mp h1)

/-- What round `r` takes is the entry at its position. -/
theorem left_self (r : Nat) (hr : r < k) : left f σ r (σ r) = f (σ r) :=
  left_of_not_taken f σ r _ fun j hj => untaken f σ e he hf hσ r hr j hj

/-- A position untaken before round `r` is not before the position round `r` takes. -/
theorem not_before (r : Nat) (hr : r < k) (p : Fin n) (hp : ∀ j < r, σ j ≠ p) : firstLarger f p (σ r) = false := by
  have h := hσ r hr
  have hs := left_self f σ e he hf hσ r hr
  have hpe := left_of_not_taken f σ r p hp
  unfold firstLarger
  simp only [Bool.or_eq_false_iff, decide_eq_false_iff_not, Bool.and_eq_false_imp, decide_eq_true_eq]
  refine ⟨not_lt.mpr ?_, fun heq => not_lt.mpr (h.2 p ?_)⟩
  · rw [← hpe, ← hs]; exact h.1 p
  · rw [hpe, hs]; exact heq

/-- Round `r` takes the position the stable descending sort puts at place `r`. -/
theorem sortedFrom_eq_round (hk : k ≤ n) (i : Fin k) :
    sortedFrom (fun a b => decide (f b < f a)) (i.castLE hk) = σ i.val := by
  rw [sortedFrom_eq]
  refine (firstLarger_strictTotal f).sortedFrom_eq_of_prefix hk (fun i : Fin k => σ i.val) ?_ ?_ ?_ i
  · intro a b hab
    rcases lt_trichotomy a.val b.val with h | h | h
    · exact absurd hab (untaken f σ e he hf hσ b.val b.isLt a.val h)
    · exact Fin.ext h
    · exact absurd hab.symm (untaken f σ e he hf hσ a.val a.isLt b.val h)
  · intro a b hab
    exact not_before f σ e he hf hσ a.val a.isLt _ fun j hj =>
      untaken f σ e he hf hσ b.val b.isLt j (hj.trans hab)
  · intro a p hp
    exact not_before f σ e he hf hσ a.val a.isLt p fun j hj => hp ⟨j, hj.trans a.isLt⟩

end

end Cert.Proof.Rounds

end
-- ==== Proof.Round.lean ====
/- One round of the kernel at the extended reals: the largest entry of the block, the flat number of its first
   position, and the block with that position overwritten. -/
module

public import proofs.«01_k».proof.Proof.Rounds
public import proofs.«01_k».proof.Proof.Gen.KernelIdeal.Skeleton
public import Idealize.ShloMosaic.Lib.Pipeline.Value
public import Idealize.ShloMosaic.Lib.ValueIdx
public import Idealize.ShloMosaic.Lib.WordCmp
public import Idealize.ShloMosaic.PureOps.Ideal.Laws
public import Idealize.ShloMosaic.PureOps.Reduce

@[expose] public section

noncomputable section

namespace Cert.Proof.Round

open Idealize.ShloMosaic Idealize.ShloMosaic.ValueIdx Idealize.SL.Sem
open Cert.KernelIdeal Cert.KernelIdeal.Gen Cert.Proof.Rounds

/-! ## Reductions of a whole vector to one element -/

/-- The maximum from the least value over a nonempty finite type bounds every entry and is one of them. -/
theorem fold_max_bot {ι : Type} [Fintype ι] [Nonempty ι] (f : ι → EReal) :
    (∀ i, f i ≤ Finset.univ.fold max ⊥ f) ∧ ∃ i, Finset.univ.fold max ⊥ f = f i := by
  have h1 : ∀ i, f i ≤ Finset.univ.fold max ⊥ f := fun i =>
    (Finset.fold_max_le _).mp le_rfl |>.2 i (Finset.mem_univ i)
  refine ⟨h1, ?_⟩
  rcases (Finset.le_fold_max _).mp (le_refl (Finset.univ.fold max ⊥ f)) with h | ⟨i, -, h⟩
  · obtain ⟨i⟩ := ‹Nonempty ι›
    exact ⟨i, le_antisymm (h.trans bot_le) (h1 i)⟩
  · exact ⟨i, le_antisymm h (h1 i)⟩

/-- The signed minimum over a set is at most every entry and is the start or one of them. -/
theorem fold_minsi {ι : Type} [DecidableEq ι] (s : Finset ι) (f : ι → BitVec 32) (z : BitVec 32) :
    (∀ i ∈ s, (s.fold IntOp.minsi z f).toInt ≤ (f i).toInt) ∧
      (s.fold IntOp.minsi z f = z ∨ ∃ i ∈ s, s.fold IntOp.minsi z f = f i) := by
  induction s using Finset.induction_on with
  | empty => simp
  | insert a s has ih =>
    rw [Finset.fold_insert has]
    obtain ⟨h1, h2⟩ := ih
    have hm : ∀ x y : BitVec 32, IntOp.minsi x y = if x.toInt < y.toInt then x else y := fun x y => by
      unfold IntOp.minsi
      simp only [BitVec.slt_iff_toInt_lt]
    rw [hm]
    split
    · next h =>
      refine ⟨fun i hi => ?_, Or.inr ⟨a, Finset.mem_insert_self a s, rfl⟩⟩
      rcases Finset.mem_insert.mp hi with rfl | hi
      · exact le_rfl
      · exact h.le.trans (h1 i hi)
    · next h =>
      refine ⟨fun i hi => ?_, ?_⟩
      · rcases Finset.mem_insert.mp hi with rfl | hi
        · exact not_lt.mp h
        · exact h1 i hi
      · rcases h2 with h2 | ⟨i, hi, h2⟩
        · exact Or.inl h2
        · exact Or.inr ⟨i, Finset.mem_insert_of_mem hi, h2⟩

/-! ## Positions -/

/-- The flat number of a place of the block: row times the vocabulary, plus column. -/
def pos (i : S8x100000.Idx) : Fin 800000 :=
  ⟨(i 0).val * 100000 + (i 1).val, by
    have h0 : (i 0).val < 8 := (i 0).isLt
    have h1 : (i 1).val < 100000 := (i 1).isLt
    omega⟩

/-- The place of the block with a flat number. -/
def cell (p : Fin 800000) : S8x100000.Idx :=
  ix2 (n0 := 8) (n1 := 100000) ⟨p.val / 100000, by omega⟩ ⟨p.val % 100000, by omega⟩

/-- The place of a place's number is that place. -/
theorem cell_pos (i : S8x100000.Idx) : cell (pos i) = i := by
  have h1 : (i 1).val < 100000 := (i 1).isLt
  rw [eq_ix2 (n0 := 8) (n1 := 100000) i]
  unfold cell pos
  congr 1 <;> apply Fin.ext
  · show ((i 0).val * 100000 + (i 1).val) / 100000 = (i 0).val
    omega
  · show ((i 0).val * 100000 + (i 1).val) % 100000 = (i 1).val
    omega

/-- The number of a number's place is that number. -/
theorem pos_cell (p : Fin 800000) : pos (cell p) = p := by
  apply Fin.ext
  show p.val / 100000 * 100000 + p.val % 100000 = p.val
  omega

/-- The kernel's flat word of a place is the place's number. -/
theorem flat_apply (i : S8x100000.Idx) : k0_pay4 i = BitVec.ofNat 32 (pos i).val := by
  show IntOp.addi (IntOp.muli (iota .tc S8x100000 32 [0] iota_S8x100000_d0_w32 i) 100000#32)
    (iota .tc S8x100000 32 [1] iota_S8x100000_d1_w32 i) = _
  have e0 : iota .tc S8x100000 32 [0] iota_S8x100000_d0_w32 i = BitVec.ofNat 32 (i 0).val := by
    rw [WordCmp.iota_at]
    show BitVec.ofNat 32 (0 * _ + (i 0).val) = _
    rw [Nat.zero_mul, Nat.zero_add]
  have e1 : iota .tc S8x100000 32 [1] iota_S8x100000_d1_w32 i = BitVec.ofNat 32 (i 1).val := by
    rw [WordCmp.iota_at]
    show BitVec.ofNat 32 (0 * _ + (i 1).val) = _
    rw [Nat.zero_mul, Nat.zero_add]
  rw [e0, e1, WordCmp.muli_ofNat, WordCmp.addi_ofNat]
  rfl

/-! ## The round, in the kernel's operations -/

/-- The largest entry of a block. -/
def top (x : FVec Ideal S8x100000 .f32) : Ideal .f32 :=
  extractAt ![0, 0, 0] (shapeCast S1x1x1 (multiReduction .maximumf [1, 2] S1
    (shapeCast S1x8x100000 x shapeCasts_S8x100000_S1x8x100000) 0xFF800000#32 reduces_S1x8x100000_S1 (.inl rfl) rfl)
    shapeCasts_S1_S1x1x1) inpos_S1x1x1_p0_0_0

/-- The least flat number among the places holding the largest entry. -/
def firstAt (x : FVec Ideal S8x100000 .f32) : BitVec 32 :=
  extractAt ![0, 0, 0] (shapeCast S1x1x1 (multiReductionI .minsi [1, 2] S1
    (shapeCast S1x8x100000 (select (cmpf .oeq x (broadcast S8x100000 (top x))) k0_pay4 (broadcast S8x100000 2147483647#32))
      shapeCasts_S8x100000_S1x8x100000) 2147483647#32 reduces_S1x8x100000_S1 rfl)
    shapeCasts_S1_S1x1x1) inpos_S1x1x1_p0_0_0

/-- The block with that place overwritten. -/
def next (x : FVec Ideal S8x100000 .f32) : FVec Ideal S8x100000 .f32 :=
  select (cmpi .eq k0_pay4 (broadcast S8x100000 (firstAt x)))
    (broadcast S8x100000 (Scalar.ofBits .f32 0xFF800000#32)) x

/-- Every source index of the reduction drops to its one result index. -/
theorem drop_univ (j : S1.Idx) :
    (Finset.univ.filter fun i => (reduces_S1x8x100000_S1).drop i = j) = Finset.univ := by
  refine Finset.filter_true_of_mem fun i _ => ?_
  have hz : ∀ a b : S1.Idx, a = b := fun a b => by
    rw [eq_ix1 (n := 1) a, eq_ix1 (n := 1) b]
    exact congrArg ix1 (Subsingleton.elim (α := Fin 1) _ _)
  exact hz _ _

/-- The one element taken out of a one-element vector is one of its elements. -/
theorem extract_at {α : Type} (y : S1.Idx → α) :
    ∃ j, extractAt ![0, 0, 0] (shapeCast S1x1x1 y shapeCasts_S1_S1x1x1) inpos_S1x1x1_p0_0_0 = y j := by
  unfold extractAt shapeCast
  exact ⟨_, rfl⟩

/-- The block's cast with a leading unit axis holds the block's entries, each once. -/
theorem cast_at {α : Type} (x : S8x100000.Idx → α) :
    (∀ i, ∃ k, shapeCast S1x8x100000 x shapeCasts_S8x100000_S1x8x100000 k = x i) ∧
      ∀ k, ∃ i, shapeCast S1x8x100000 x shapeCasts_S8x100000_S1x8x100000 k = x i :=
  ⟨fun i => ⟨(Shape.reshapeEquiv shapeCasts_S8x100000_S1x8x100000).symm i, by
      unfold shapeCast; rw [Equiv.apply_symm_apply]⟩,
    fun k => ⟨_, rfl⟩⟩

/-- The word of minus infinity is the least extended real. -/
theorem negInf : Ideal.ofBits .f32 0xFF800000#32 = ⊥ := by simp [Ideal.ofBits, Ideal.ieee]

instance : Nonempty S1x8x100000.Idx := ⟨ix3 (n0 := 1) (n1 := 8) (n2 := 100000) ⟨0, by omega⟩ ⟨0, by omega⟩ ⟨0, by omega⟩⟩

/-- The reduction by maximum to one element is the maximum over all entries. -/
theorem reduce_max (y : FVec Ideal S1x8x100000 .f32) (hφ) (hacc) (j : S1.Idx) :
    (multiReduction .maximumf [1, 2] S1 y 0xFF800000#32 reduces_S1x8x100000_S1 hφ hacc j : EReal)
      = Finset.univ.fold max ⊥ y := by
  rw [multiReduction_maximumf_eq_fold, drop_univ]
  show Finset.fold max (Ideal.ofBits .f32 0xFF800000#32) _ _ = _
  rw [negInf]

/-- The reduction by signed minimum to one element is the minimum over all entries. -/
theorem reduce_min (y : IVec S1x8x100000 32) (hacc) (j : S1.Idx) :
    multiReductionI .minsi [1, 2] S1 y 2147483647#32 reduces_S1x8x100000_S1 hacc j
      = Finset.univ.fold IntOp.minsi 2147483647#32 y := by
  rw [multiReductionI_eq_fold, drop_univ]
  rfl

/-- An ordered equality of extended reals, at an index. -/
theorem cmpf_oeq_at {s : Shape} (x y : FVec Ideal s .f32) (i : s.Idx) :
    cmpf .oeq x y i = BitVec.ofBool (decide ((x i : EReal) = y i)) := rfl

/-- The largest entry bounds every entry and is one of them. -/
theorem top_spec (x : FVec Ideal S8x100000 .f32) :
    (∀ i, (x i : EReal) ≤ top x) ∧ ∃ i, (top x : EReal) = x i := by
  have e : ∃ j, top x = (multiReduction .maximumf [1, 2] S1 (shapeCast S1x8x100000 x shapeCasts_S8x100000_S1x8x100000)
      0xFF800000#32 reduces_S1x8x100000_S1 (.inl rfl) rfl) j := by
    unfold top
    exact extract_at _
  obtain ⟨j, e⟩ := e
  have e' : (top x : EReal) = Finset.univ.fold max ⊥ (shapeCast S1x8x100000 x shapeCasts_S8x100000_S1x8x100000) := by
    exact e.trans (reduce_max _ _ _ _)
  obtain ⟨h1, k, h2⟩ := fold_max_bot (shapeCast S1x8x100000 x shapeCasts_S8x100000_S1x8x100000 : _ → EReal)
  refine ⟨fun i => ?_, ?_⟩
  · obtain ⟨k, hk⟩ := (cast_at x).1 i
    rw [e', ← hk]; exact h1 k
  · obtain ⟨i, hi⟩ := (cast_at x).2 k
    exact ⟨i, by rw [e', h2, hi]⟩

/-- The candidate word of a place: its flat number where the entry is the largest, else the largest word. -/
theorem cand_apply (x : FVec Ideal S8x100000 .f32) (i : S8x100000.Idx) :
    (select (cmpf .oeq x (broadcast S8x100000 (top x))) k0_pay4 (broadcast S8x100000 2147483647#32) : IVec S8x100000 32) i
      = if (x i : EReal) = top x then BitVec.ofNat 32 (pos i).val else 2147483647#32 := by
  rw [WordCmp.select_at, WordCmp.broadcast_at, cmpf_oeq_at, WordCmp.broadcast_at, flat_apply, WordCmp.select_decide]

/-- ONE ROUND: there is a first position of the largest entry, the largest entry is the entry there, the round's word is
    its number, and the block left differs from the block only there, where it holds the least value. -/
theorem exists_round (x : FVec Ideal S8x100000 .f32) :
    ∃ p : Fin 800000, FirstMax (fun q => (x (cell q) : EReal)) p ∧ (top x : EReal) = x (cell p)
      ∧ firstAt x = BitVec.ofNat 32 p.val
      ∧ ∀ q, (next x (cell q) : EReal) = if q = p then ⊥ else x (cell q) := by
  obtain ⟨ht, i0, hi0⟩ := top_spec x
  have e : ∃ j, firstAt x = (multiReductionI .minsi [1, 2] S1
      (shapeCast S1x8x100000 (select (cmpf .oeq x (broadcast S8x100000 (top x))) k0_pay4 (broadcast S8x100000 2147483647#32))
      shapeCasts_S8x100000_S1x8x100000) 2147483647#32 reduces_S1x8x100000_S1 rfl) j := by
    unfold firstAt
    exact extract_at _
  obtain ⟨j, e⟩ := e
  replace e := e.trans (reduce_min _ _ _)
  obtain ⟨h1, h2⟩ := fold_minsi Finset.univ (shapeCast S1x8x100000 (select (cmpf .oeq x (broadcast S8x100000 (top x))) k0_pay4
    (broadcast S8x100000 2147483647#32)) shapeCasts_S8x100000_S1x8x100000 : _ → BitVec 32) 2147483647#32
  rw [← e] at h1 h2
  have hnum : ∀ i : S8x100000.Idx, (BitVec.ofNat 32 (pos i).val).toInt = ((pos i).val : Int) := fun i =>
    WordCmp.toInt_ofNat_of_lt (by have := (pos i).isLt; omega)
  -- the word is at most the number of every place holding the largest entry
  have hle : ∀ i, (x i : EReal) = top x → (firstAt x).toInt ≤ ((pos i).val : Int) := fun i hi => by
    obtain ⟨k, hk⟩ := (cast_at (select (cmpf .oeq x (broadcast S8x100000 (top x))) k0_pay4
      (broadcast S8x100000 2147483647#32) : IVec S8x100000 32)).1 i
    have := h1 k (Finset.mem_univ k)
    rw [hk, cand_apply, if_pos hi, hnum] at this
    exact this
  -- and it is the number of one of them
  have hex : ∃ i, (x i : EReal) = top x ∧ firstAt x = BitVec.ofNat 32 (pos i).val := by
    have hbig : firstAt x ≠ 2147483647#32 := fun hb => by
      have := hle i0 hi0.symm
      rw [hb, show (2147483647#32 : BitVec 32).toInt = 2147483647 by decide] at this
      have := (pos i0).isLt
      omega
    rcases h2 with h2 | ⟨k, -, h2⟩
    · exact absurd h2 hbig
    · obtain ⟨i, hi⟩ := (cast_at (select (cmpf .oeq x (broadcast S8x100000 (top x))) k0_pay4
        (broadcast S8x100000 2147483647#32) : IVec S8x100000 32)).2 k
      rw [hi, cand_apply] at h2
      by_cases hx : (x i : EReal) = top x
      · rw [if_pos hx] at h2; exact ⟨i, hx, h2⟩
      · rw [if_neg hx] at h2; exact absurd h2 hbig
  obtain ⟨i, hx, hw⟩ := hex
  refine ⟨pos i, ⟨fun q => ?_, fun q hq => ?_⟩, ?_, hw, fun q => ?_⟩
  · show (x (cell q) : EReal) ≤ x (cell (pos i))
    rw [cell_pos, hx]; exact ht _
  · have hq' : (x (cell q) : EReal) = x (cell (pos i)) := hq
    rw [cell_pos, hx] at hq'
    have := hle _ hq'
    rw [hw, hnum, pos_cell] at this
    exact Fin.le_def.mpr (by omega)
  · rw [cell_pos, hx]
  · have hb : ∀ w : BitVec 32, (Scalar.ofBits .f32 w : Ideal .f32) = Ideal.ofBits .f32 w := fun _ => rfl
    have hq := q.isLt
    have hi := (pos i).isLt
    unfold next
    rw [WordCmp.select_at, WordCmp.cmpi_at, WordCmp.broadcast_at, WordCmp.broadcast_at, flat_apply, hw, pos_cell,
      WordCmp.cmpi_eq_ofNat (by omega) (by omega), WordCmp.select_decide, hb, negInf]
    simp only [Fin.ext_iff]

end Cert.Proof.Round

end
-- ==== Proof.Chain.lean ====
/- The eight rounds of one block: the values and the flat numbers the kernel collects are the entries and the positions a
   stable descending sort of the whole block puts first. -/
module

public import proofs.«01_k».proof.Proof.Round

@[expose] public section

noncomputable section

namespace Cert.Proof.Chain

open Idealize.ShloMosaic Idealize.ShloMosaic.ValueIdx Idealize.SL.Sem
open Cert.KernelIdeal Cert.KernelIdeal.Gen Cert.Proof.Rounds Cert.Proof.Round

/-- The block after a number of rounds. -/
def after (x : FVec Ideal S8x100000 .f32) : Nat → FVec Ideal S8x100000 .f32
  | 0 => x
  | r + 1 => next (after x r)

/-- The position taken by each round. -/
def taken (x : FVec Ideal S8x100000 .f32) (r : Nat) : Fin 800000 := (exists_round (after x r)).choose

/-- What the round's position is: see `exists_round`. -/
theorem taken_spec (x : FVec Ideal S8x100000 .f32) (r : Nat) :
    FirstMax (fun q => (after x r (cell q) : EReal)) (taken x r)
      ∧ (top (after x r) : EReal) = after x r (cell (taken x r))
      ∧ firstAt (after x r) = BitVec.ofNat 32 (taken x r).val
      ∧ ∀ q, (next (after x r) (cell q) : EReal) = if q = taken x r then ⊥ else after x r (cell q) :=
  (exists_round (after x r)).choose_spec

/-- The block after `r` rounds is the block with the taken positions overwritten. -/
theorem after_eq_left (x : FVec Ideal S8x100000 .f32) (r : Nat) :
    (fun q => (after x r (cell q) : EReal)) = left (fun q => (x (cell q) : EReal)) (taken x) r := by
  induction r with
  | zero => rfl
  | succ r ih =>
    funext q
    rw [left, ← ih]
    exact (taken_spec x r).2.2.2 q

/-- The position a stable descending sort of the block's entries puts at rank `q`. -/
def sel (x : FVec Ideal S8x100000 .f32) (q : Fin 8) : Fin 800000 :=
  sortedFrom (fun a b => decide ((x (cell b) : EReal) < x (cell a))) (q.castLE (by omega))

/-- The flat number of column two of a row. -/
def eosAt (r : Fin 8) : Fin 800000 := ⟨r.val * 100000 + 2, by omega⟩

/-- Column two holds an entry above the least value in every row. -/
def EosFinite (x : FVec Ideal S8x100000 .f32) : Prop := ∀ r, (x (cell (eosAt r)) : EReal) ≠ ⊥

/-- The sort's rank `q` is the position round `q` takes. -/
theorem sel_eq_taken (x : FVec Ideal S8x100000 .f32) (hx : EosFinite x) (q : Fin 8) : sel x q = taken x q.val := by
  refine sortedFrom_eq_round (fun q => (x (cell q) : EReal)) (taken x) eosAt ?_ hx ?_ (by omega) q
  · intro a b h
    have h' : a.val * 100000 + 2 = b.val * 100000 + 2 := congrArg Fin.val h
    exact Fin.ext (by omega)
  · intro r _
    rw [← after_eq_left]
    exact (taken_spec x r).1

/-- The largest entry met by round `q` is the block's entry at the sort's rank `q`. -/
theorem top_after (x : FVec Ideal S8x100000 .f32) (hx : EosFinite x) (q : Fin 8) :
    (top (after x q.val) : EReal) = x (cell (sel x q)) := by
  rw [sel_eq_taken x hx, (taken_spec x q.val).2.1]
  have h := congrFun (after_eq_left x q.val) (taken x q.val)
  refine h.trans (left_self (fun q => (x (cell q) : EReal)) (taken x) eosAt ?_ hx ?_ q.val q.isLt)
  · intro a b h
    have h' : a.val * 100000 + 2 = b.val * 100000 + 2 := congrArg Fin.val h
    exact Fin.ext (by omega)
  · intro r _
    rw [← after_eq_left]
    exact (taken_spec x r).1

/-- The word of round `q` is the number of the sort's rank `q`. -/
theorem firstAt_after (x : FVec Ideal S8x100000 .f32) (hx : EosFinite x) (q : Fin 8) :
    firstAt (after x q.val) = BitVec.ofNat 32 (sel x q).val := by
  rw [sel_eq_taken x hx, (taken_spec x q.val).2.2.1]

/-! ## The kernel's accumulators -/

/-- An accumulator of eight lanes with lane `r` replaced. -/
def put {α : Type} (r : BitVec 32) (t : α) (acc : S8.Idx → α) : S8.Idx → α :=
  select (cmpi .eq k0_pay6 (broadcast S8 r)) (broadcast S8 t) acc

/-- The lane number at a lane. -/
theorem lane_apply (q : Fin 8) : k0_pay6 (ix1 (n := 8) q) = BitVec.ofNat 32 q.val := by
  unfold k0_pay6
  have h := shapeCast_apply (iota .tc S1x8 32 [1] iota_S1x8_d1_w32) shapeCasts_S1x8_S8 (ix1 (n := 8) q)
    (ix2 (n0 := 1) (n1 := 8) ⟨0, by omega⟩ q) (by
      revert q; decide)
  refine h.trans ?_
  rw [WordCmp.iota_at]
  show BitVec.ofNat 32 (0 * _ + q.val) = _
  rw [Nat.zero_mul, Nat.zero_add]

/-- A replaced accumulator at a lane. -/
theorem put_apply {α : Type} (r : Nat) (hr : r < 8) (t : α) (acc : S8.Idx → α) (q : Fin 8) :
    put (BitVec.ofNat 32 r) t acc (ix1 (n := 8) q) = if q.val = r then t else acc (ix1 (n := 8) q) := by
  unfold put
  rw [WordCmp.select_at, WordCmp.cmpi_at, WordCmp.broadcast_at, WordCmp.broadcast_at, lane_apply,
    WordCmp.cmpi_eq_ofNat (by omega) (by omega), WordCmp.select_decide]

/-- The accumulator after eight replacements. -/
def puts {α : Type} (t : Nat → α) (z : S8.Idx → α) : S8.Idx → α :=
  put 7#32 (t 7) (put 6#32 (t 6) (put 5#32 (t 5) (put 4#32 (t 4) (put 3#32 (t 3) (put 2#32 (t 2) (put 1#32 (t 1)
    (put 0#32 (t 0) z)))))))

/-- After eight replacements lane `q` holds the `q`-th value. -/
theorem puts_apply {α : Type} (t : Nat → α) (z : S8.Idx → α) (q : Fin 8) : puts t z (ix1 (n := 8) q) = t q.val := by
  unfold puts
  rw [put_apply 7 (by omega), put_apply 6 (by omega), put_apply 5 (by omega), put_apply 4 (by omega),
    put_apply 3 (by omega), put_apply 2 (by omega), put_apply 1 (by omega), put_apply 0 (by omega)]
  match q with
  | 0 => rfl
  | 1 => rfl
  | 2 => rfl
  | 3 => rfl
  | 4 => rfl
  | 5 => rfl
  | 6 => rfl
  | 7 => rfl

/-- The cast of a block with a leading unit axis, as the kernel carries it beside the block. -/
def lift (x : FVec Ideal S8x100000 .f32) : FVec Ideal S1x8x100000 .f32 :=
  shapeCast S1x8x100000 x shapeCasts_S8x100000_S1x8x100000

section Steps

variable (x : FVec Ideal S8x100000 .f32) (v : FVec Ideal S8 .f32) (w : IVec S8 32)

theorem pay15_eq : k0_pay15 k0_pay4 k0_pay6 v x (lift x) = put 2#32 (top (next x)) (put 1#32 (top x) v) := rfl
theorem pay16_eq : k0_pay16 k0_pay4 k0_pay6 w x (lift x) = put 2#32 (firstAt (next x)) (put 1#32 (firstAt x) w) := rfl
theorem pay17_eq : k0_pay17 k0_pay4 x (lift x) = next (next x) := rfl
theorem pay18_eq : k0_pay18 k0_pay4 x (lift x) = lift (next (next x)) := rfl
theorem pay22_eq : k0_pay22 k0_pay4 k0_pay6 v x (lift x) = put 4#32 (top (next x)) (put 3#32 (top x) v) := rfl
theorem pay23_eq : k0_pay23 k0_pay4 k0_pay6 w x (lift x) = put 4#32 (firstAt (next x)) (put 3#32 (firstAt x) w) := rfl
theorem pay24_eq : k0_pay24 k0_pay4 x (lift x) = next (next x) := rfl
theorem pay25_eq : k0_pay25 k0_pay4 x (lift x) = lift (next (next x)) := rfl
theorem pay29_eq : k0_pay29 k0_pay4 k0_pay6 v x (lift x) = put 6#32 (top (next x)) (put 5#32 (top x) v) := rfl
theorem pay30_eq : k0_pay30 k0_pay4 k0_pay6 w x (lift x) = put 6#32 (firstAt (next x)) (put 5#32 (firstAt x) w) := rfl
theorem pay31_eq : k0_pay31 k0_pay4 x (lift x) = next (next x) := rfl
theorem pay32_eq : k0_pay32 k0_pay4 x (lift x) = lift (next (next x)) := rfl
theorem pay34_eq : k0_pay34 k0_pay6 v (lift x) = put 7#32 (top x) v := rfl
theorem pay35_eq : k0_pay35 k0_pay4 k0_pay6 w x (lift x) = put 7#32 (firstAt x) w := rfl

end Steps

section Compose

variable (v0 : Vec Ideal S8x100000 .f32) (v1 : Vec Ideal S8x1 .f32)

theorem pay8_eq : k0_pay8 v0 v1 = put 0#32 (top (k0_pay5 v0 v1)) (broadcast S8 (Scalar.ofBits .f32 0x00000000#32)) := rfl
theorem pay9_eq : k0_pay9 v0 v1 = put 0#32 (firstAt (k0_pay5 v0 v1)) (broadcast S8 0#32) := rfl
theorem pay10_eq : k0_pay10 v0 v1 = next (k0_pay5 v0 v1) := rfl
theorem pay11_eq : k0_pay11 v0 v1 = lift (next (k0_pay5 v0 v1)) := rfl

/-- The block carried into rounds three and four. -/
def x3 : FVec Ideal S8x100000 .f32 := k0_pay17 k0_pay4 (k0_pay10 v0 v1) (k0_pay11 v0 v1)
/-- Its cast. -/
def x3' : FVec Ideal S1x8x100000 .f32 := k0_pay18 k0_pay4 (k0_pay10 v0 v1) (k0_pay11 v0 v1)
/-- The block carried into rounds five and six. -/
def x5 : FVec Ideal S8x100000 .f32 := k0_pay24 k0_pay4 (x3 v0 v1) (x3' v0 v1)
/-- Its cast. -/
def x5' : FVec Ideal S1x8x100000 .f32 := k0_pay25 k0_pay4 (x3 v0 v1) (x3' v0 v1)
/-- The block carried into the last round. -/
def x7 : FVec Ideal S8x100000 .f32 := k0_pay31 k0_pay4 (x5 v0 v1) (x5' v0 v1)
/-- Its cast. -/
def x7' : FVec Ideal S1x8x100000 .f32 := k0_pay32 k0_pay4 (x5 v0 v1) (x5' v0 v1)
/-- The values collected by the kernel. -/
def vals : FVec Ideal S8 .f32 :=
  k0_pay34 k0_pay6 (k0_pay29 k0_pay4 k0_pay6 (k0_pay22 k0_pay4 k0_pay6
    (k0_pay15 k0_pay4 k0_pay6 (k0_pay8 v0 v1) (k0_pay10 v0 v1) (k0_pay11 v0 v1))
    (x3 v0 v1) (x3' v0 v1)) (x5 v0 v1) (x5' v0 v1)) (x7' v0 v1)
/-- The flat numbers collected before the last round. -/
def ids7 : IVec S8 32 :=
  k0_pay30 k0_pay4 k0_pay6 (k0_pay23 k0_pay4 k0_pay6
    (k0_pay16 k0_pay4 k0_pay6 (k0_pay9 v0 v1) (k0_pay10 v0 v1) (k0_pay11 v0 v1))
    (x3 v0 v1) (x3' v0 v1)) (x5 v0 v1) (x5' v0 v1)
/-- The flat numbers collected by the kernel. -/
def ids : IVec S8 32 := k0_pay35 k0_pay4 k0_pay6 (ids7 v0 v1) (x7 v0 v1) (x7' v0 v1)

theorem x3_eq : x3 v0 v1 = after (k0_pay5 v0 v1) 3 := by unfold x3; rw [pay10_eq, pay11_eq, pay17_eq]; rfl
theorem x3'_eq : x3' v0 v1 = lift (after (k0_pay5 v0 v1) 3) := by unfold x3'; rw [pay10_eq, pay11_eq, pay18_eq]; rfl
theorem x5_eq : x5 v0 v1 = after (k0_pay5 v0 v1) 5 := by unfold x5; rw [x3_eq, x3'_eq, pay24_eq]; rfl
theorem x5'_eq : x5' v0 v1 = lift (after (k0_pay5 v0 v1) 5) := by unfold x5'; rw [x3_eq, x3'_eq, pay25_eq]; rfl
theorem x7_eq : x7 v0 v1 = after (k0_pay5 v0 v1) 7 := by unfold x7; rw [x5_eq, x5'_eq, pay31_eq]; rfl
theorem x7'_eq : x7' v0 v1 = lift (after (k0_pay5 v0 v1) 7) := by unfold x7'; rw [x5_eq, x5'_eq, pay32_eq]; rfl

/-- The collected values are the rounds' largest entries. -/
theorem vals_eq : vals v0 v1 = puts (fun r => top (after (k0_pay5 v0 v1) r)) (broadcast S8 (Scalar.ofBits .f32 0x00000000#32)) := by
  unfold vals puts
  rw [x7'_eq, x5_eq, x5'_eq, x3_eq, x3'_eq, pay10_eq, pay11_eq, pay8_eq, pay15_eq, pay22_eq, pay29_eq, pay34_eq]
  rfl

/-- The collected numbers are the rounds' words. -/
theorem ids_eq : ids v0 v1 = puts (fun r => firstAt (after (k0_pay5 v0 v1) r)) (broadcast S8 0#32) := by
  unfold ids ids7 puts
  rw [x7_eq, x7'_eq, x5_eq, x5'_eq, x3_eq, x3'_eq, pay10_eq, pay11_eq, pay9_eq, pay16_eq, pay23_eq, pay30_eq, pay35_eq]
  rfl

/-- THE VALUES: lane `q` holds the block's entry at the sort's rank `q`. -/
theorem vals_apply (hx : EosFinite (k0_pay5 v0 v1)) (q : Fin 8) :
    (vals v0 v1 (ix1 (n := 8) q) : EReal) = k0_pay5 v0 v1 (cell (sel (k0_pay5 v0 v1) q)) := by
  rw [vals_eq, puts_apply]
  exact top_after _ hx q

/-- THE NUMBERS: lane `q` holds the number of the sort's rank `q`. -/
theorem ids_apply (hx : EosFinite (k0_pay5 v0 v1)) (q : Fin 8) :
    ids v0 v1 (ix1 (n := 8) q) = BitVec.ofNat 32 (sel (k0_pay5 v0 v1) q).val := by
  rw [ids_eq, puts_apply]
  exact firstAt_after _ hx q

end Compose

end Cert.Proof.Chain

end
-- ==== Proof.Words.lean ====
/- The index arithmetic of one block: from the collected flat numbers to the beams, tokens, rows, finish marks and
   selected history rows the kernel stores. -/
module

public import proofs.«01_k».proof.Proof.Chain
public import Idealize.ShloMosaic.Lib.MatmulPlain

@[expose] public section

noncomputable section

namespace Cert.Proof.Words

open Idealize.ShloMosaic Idealize.ShloMosaic.ValueIdx Idealize.SL.Sem
open Cert.KernelIdeal Cert.KernelIdeal.Gen Cert.Proof.Round Cert.Proof.Chain

/-- A threshold test chosen between one and zero is the word of the choice. -/
theorem step_word (p c : Nat) (hp : p < 800000) (hc : c < 800000) :
    Scalar.select (IntOp.cmpi .sge (BitVec.ofNat 32 p) (BitVec.ofNat 32 c)) 1#32 0#32
      = BitVec.ofNat 32 (if c ≤ p then 1 else 0) := by
  rw [WordCmp.cmpi_sge_ofNat (by omega) (by omega), WordCmp.select_decide]
  split <;> rfl

/-- The number of multiples of 100000 passed is the quotient. -/
theorem steps_div (p : Nat) (hp : p < 800000) :
    0 + (if 100000 ≤ p then 1 else 0) + (if 200000 ≤ p then 1 else 0) + (if 300000 ≤ p then 1 else 0)
      + (if 400000 ≤ p then 1 else 0) + (if 500000 ≤ p then 1 else 0) + (if 600000 ≤ p then 1 else 0)
      + (if 700000 ≤ p then 1 else 0) = p / 100000 := by
  have h : p / 100000 < 8 := by omega
  split_ifs <;> omega

/-- A number's word less the word of its multiple part is the word of its remainder. -/
theorem rem_word (p : Nat) :
    IntOp.subi (BitVec.ofNat 32 p) (IntOp.muli (BitVec.ofNat 32 (p / 100000)) 100000#32) = BitVec.ofNat 32 (p % 100000) := by
  rw [WordCmp.muli_ofNat]
  have h : BitVec.ofNat 32 p = BitVec.ofNat 32 (p % 100000) + BitVec.ofNat 32 (p / 100000 * 100000) := by
    rw [← BitVec.ofNat_add]
    congr 1
    omega
  rw [h]
  exact BitVec.add_sub_cancel _ _

/-! ## Layout of eight lanes -/

section Layout

variable {α : Type}

/-- Eight lanes under two unit axes. -/
theorem lanes_cast3 (x : S8.Idx → α) (q : Fin 8) :
    shapeCast S1x1x8 x shapeCasts_S8_S1x1x8 (ix3 (n0 := 1) (n1 := 1) (n2 := 8) 0 0 q) = x (ix1 (n := 8) q) :=
  shapeCast_apply x shapeCasts_S8_S1x1x8 _ (ix1 (n := 8) q) (by revert q; decide)

/-- Eight lanes as a column. -/
theorem lanes_column (x : S8.Idx → α) (q : Fin 8) :
    shapeCast S8x1 x shapeCasts_S8_S8x1 (ix2 (n0 := 8) (n1 := 1) q 0) = x (ix1 (n := 8) q) :=
  shapeCast_apply x shapeCasts_S8_S8x1 _ (ix1 (n := 8) q) (by revert q; decide)

/-- Eight lanes as a row. -/
theorem lanes_row (x : S8.Idx → α) (q : Fin 8) :
    shapeCast S1x8 x shapeCasts_S8_S1x8 (ix2 (n0 := 1) (n1 := 8) 0 q) = x (ix1 (n := 8) q) :=
  shapeCast_apply x shapeCasts_S8_S1x8 _ (ix1 (n := 8) q) (by revert q; decide)

/-- A column repeated along the rows. -/
theorem column_bcast (x : S8x1.Idx → α) (q k : Fin 8) :
    broadcastTo S8x8 x broadcasts_S8x1_S8x8 (ix2 (n0 := 8) (n1 := 8) q k) = x (ix2 (n0 := 8) (n1 := 1) q 0) :=
  broadcastTo_apply x broadcasts_S8x1_S8x8 _ (ix2 (n0 := 8) (n1 := 1) q 0) (by revert q k; decide)

/-- A row repeated down the columns. -/
theorem row_bcast (x : S1x8.Idx → α) (q k : Fin 8) :
    broadcastTo S8x8 x broadcasts_S1x8_S8x8 (ix2 (n0 := 8) (n1 := 8) q k) = x (ix2 (n0 := 1) (n1 := 8) 0 k) :=
  broadcastTo_apply x broadcasts_S1x8_S8x8 _ (ix2 (n0 := 1) (n1 := 8) 0 k) (by revert q k; decide)

end Layout

section Block

variable (v0 : Vec Ideal S8x100000 .f32) (v1 : Vec Ideal S8x1 .f32)

/-- The count of the first three thresholds, as the kernel carries it. -/
def steps3 : IVec S8 32 := k0_pay36 k0_pay4 k0_pay6 (ids7 v0 v1) (x7 v0 v1) (x7' v0 v1)
/-- The fourth threshold's test, as the kernel carries it. -/
def step4 : IVec S8 32 := k0_pay37 k0_pay4 k0_pay6 (ids7 v0 v1) (x7 v0 v1) (x7' v0 v1)
/-- The beam numbers. -/
def beams : IVec S8 32 := k0_pay38 (ids v0 v1) (steps3 v0 v1) (step4 v0 v1)
/-- The tokens. -/
def tokens : IVec S8 32 := k0_pay39 (ids v0 v1) (steps3 v0 v1) (step4 v0 v1)

variable (hx : EosFinite (k0_pay5 v0 v1)) (q : Fin 8)
include hx

/-- Lane `q` of the beams: the selected number's row. -/
theorem beams_apply : beams v0 v1 (ix1 (n := 8) q) = BitVec.ofNat 32 ((sel (k0_pay5 v0 v1) q).val / 100000) := by
  have hp := (sel (k0_pay5 v0 v1) q).isLt
  have hi : ids v0 v1 (ix1 (n := 8) q) = BitVec.ofNat 32 (sel (k0_pay5 v0 v1) q).val := ids_apply v0 v1 hx q
  have hi' : k0_pay35 k0_pay4 k0_pay6 (ids7 v0 v1) (x7 v0 v1) (x7' v0 v1) (ix1 (n := 8) q)
      = BitVec.ofNat 32 (sel (k0_pay5 v0 v1) q).val := hi
  have ha : ∀ (x y : IVec S8 32) (i : S8.Idx), addi x y i = IntOp.addi (x i) (y i) := fun _ _ _ => rfl
  unfold beams k0_pay38 steps3 step4 k0_pay36 k0_pay37
  dsimp only
  simp only [ha, WordCmp.select_at, WordCmp.cmpi_at, WordCmp.broadcast_at, hi, hi']
  rw [step_word _ 100000 hp (by omega), step_word _ 200000 hp (by omega), step_word _ 300000 hp (by omega),
    step_word _ 400000 hp (by omega), step_word _ 500000 hp (by omega), step_word _ 600000 hp (by omega),
    step_word _ 700000 hp (by omega)]
  simp only [WordCmp.addi_ofNat]
  rw [steps_div _ hp]

/-- Lane `q` of the tokens: the selected number's column. -/
theorem tokens_apply : tokens v0 v1 (ix1 (n := 8) q) = BitVec.ofNat 32 ((sel (k0_pay5 v0 v1) q).val % 100000) := by
  have hs : tokens v0 v1 (ix1 (n := 8) q)
      = IntOp.subi (ids v0 v1 (ix1 (n := 8) q)) (IntOp.muli (beams v0 v1 (ix1 (n := 8) q)) 100000#32) := rfl
  rw [hs, ids_apply v0 v1 hx q, beams_apply v0 v1 hx q, rem_word]

/-- The stored finish mark of lane `q`: one exactly when the token is two. -/
theorem fin_apply : k0_pay1 (k0_pay43 (ids v0 v1) (steps3 v0 v1) (step4 v0 v1)) (ix3 (n0 := 1) (n1 := 1) (n2 := 8) 0 0 q)
    = BitVec.ofNat 32 (if (sel (k0_pay5 v0 v1) q).val % 100000 = 2 then 1 else 0) := by
  have hp := (sel (k0_pay5 v0 v1) q).isLt
  unfold k0_pay1
  rw [WordCmp.extui_at, lanes_cast3]
  unfold k0_pay43
  rw [WordCmp.cmpi_at, WordCmp.broadcast_at]
  have ht : k0_pay39 (ids v0 v1) (steps3 v0 v1) (step4 v0 v1) (ix1 (n := 8) q) = _ := tokens_apply v0 v1 hx q
  rw [ht, WordCmp.cmpi_eq_ofNat (by omega) (by omega)]
  by_cases h : (sel (k0_pay5 v0 v1) q).val % 100000 = 2 <;> simp [h]

/-- The stored row of lane `q` at batch `b`: the beam plus eight times the batch. -/
theorem rows_apply (b : Nat) (hb : b < 32) :
    k0_pay42 (BitVec.ofNat 32 b) (ids v0 v1) (steps3 v0 v1) (step4 v0 v1) (ix3 (n0 := 1) (n1 := 1) (n2 := 8) 0 0 q)
      = BitVec.ofNat 32 ((sel (k0_pay5 v0 v1) q).val / 100000 + b * 8) := by
  unfold k0_pay42
  refine (lanes_cast3 _ q).trans ?_
  have hk : k0_pay38 (ids v0 v1) (steps3 v0 v1) (step4 v0 v1) (ix1 (n := 8) q) = _ := beams_apply v0 v1 hx q
  show IntOp.addi (k0_pay38 (ids v0 v1) (steps3 v0 v1) (step4 v0 v1) (ix1 (n := 8) q)) (IntOp.muli (BitVec.ofNat 32 b) 8#32) = _
  rw [hk, WordCmp.muli_ofNat, WordCmp.addi_ofNat]

/-- The stored value of lane `q`: the block's entry at the selected number. -/
theorem vals_store : (k0_pay40 (vals v0 v1) (ix3 (n0 := 1) (n1 := 1) (n2 := 8) 0 0 q) : EReal)
    = k0_pay5 v0 v1 (cell (sel (k0_pay5 v0 v1) q)) := by
  unfold k0_pay40
  refine (lanes_cast3 _ q).trans ?_
  exact vals_apply v0 v1 hx q

/-- The stored score of lane `q`: that entry divided by the length penalty. -/
theorem scores_store : (k0_pay41 (vals v0 v1) (ix3 (n0 := 1) (n1 := 1) (n2 := 8) 0 0 q) : EReal)
    = Ideal.div (k0_pay5 v0 v1 (cell (sel (k0_pay5 v0 v1) q))) (Ideal.ofBits .f32 0x3FB82491#32) := by
  unfold k0_pay41
  refine (lanes_cast3 _ q).trans ?_
  rw [← vals_apply v0 v1 hx q]
  rfl

/-- The stored last column of row `q`: the token. -/
theorem last_store : k0_pay3 (tokens v0 v1) (ix2 (n0 := 8) (n1 := 1) q 0)
    = BitVec.ofNat 32 ((sel (k0_pay5 v0 v1) q).val % 100000) := by
  unfold k0_pay3
  refine (lanes_column _ q).trans ?_
  exact tokens_apply v0 v1 hx q

end Block

/-! ## The selected history rows -/

/-- A word read as a real and truncated back is the word. -/
theorem fptosi_toInt (w : BitVec 32) : Ideal.fptosi 32 ((w.toInt : ℝ) : EReal) = w := by
  have h1 := BitVec.toInt_lt (x := w)
  have h2 := BitVec.le_toInt (x := w)
  unfold Ideal.fptosi
  rw [Ideal.toIntClamped_coe]
  have h : (if (0 : ℝ) ≤ (w.toInt : ℝ) then ⌊(w.toInt : ℝ)⌋ else ⌈(w.toInt : ℝ)⌉) = w.toInt := by
    split <;> simp
  rw [h]
  have hm : max (-((2 ^ (32 - 1) : Nat) : Int)) (min (((2 ^ (32 - 1) : Nat) : Int) - 1) w.toInt) = w.toInt := by
    have e : ((2 ^ (32 - 1) : Nat) : Int) = 2147483648 := by norm_num
    rw [e]
    norm_num at h1 h2
    omega
  rw [hm]
  exact BitVec.ofInt_toInt

/-- A one-hot row times a matrix of reals picks one entry of the column. -/
theorem onehot_sum (b : Fin 8) (f : Fin 8 → EReal) :
    ∑ k : Fin 8, (if b = k then (1 : EReal) else 0) * f k = f b := by
  simp [ite_mul]

/-- Row `q`, column `c` of the stored history: the old history at the selected beam. -/
theorem hist_store (v0 : Vec Ideal S8x100000 .f32) (v1 : Vec Ideal S8x1 .f32) (g : Vec Ideal S8x12 .i32)
    (hx : EosFinite (k0_pay5 v0 v1)) (q : Fin 8) (c : Fin 12) :
    k0_pay2 (F := Ideal) k0_pay6 (beams v0 v1) g (ix2 (n0 := 8) (n1 := 12) q c)
      = g (ix2 (n0 := 8) (n1 := 12) ⟨(sel (k0_pay5 v0 v1) q).val / 100000, by
          have := (sel (k0_pay5 v0 v1) q).isLt; omega⟩ c) := by
  have hp := (sel (k0_pay5 v0 v1) q).isLt
  set b : Fin 8 := ⟨(sel (k0_pay5 v0 v1) q).val / 100000, by omega⟩ with hb
  have hone : ∀ k : Fin 8, ((sitofp .f32 (extui 32 (cmpi .eq
      (broadcastTo S8x8 (shapeCast S8x1 (beams v0 v1) shapeCasts_S8_S8x1) broadcasts_S8x1_S8x8)
      (broadcastTo S8x8 (shapeCast S1x8 k0_pay6 shapeCasts_S8_S1x8) broadcasts_S1x8_S8x8)) natLt_1_32) :
        FVec Ideal S8x8 .f32) (ix2 (n0 := 8) (n1 := 8) q k) : EReal) = if b = k then 1 else 0 := fun k => by
    have e1 : broadcastTo S8x8 (shapeCast S8x1 (beams v0 v1) shapeCasts_S8_S8x1) broadcasts_S8x1_S8x8
        (ix2 (n0 := 8) (n1 := 8) q k) = BitVec.ofNat 32 b.val := by
      rw [column_bcast, lanes_column]
      exact beams_apply v0 v1 hx q
    have e2 : broadcastTo S8x8 (shapeCast S1x8 k0_pay6 shapeCasts_S8_S1x8) broadcasts_S1x8_S8x8
        (ix2 (n0 := 8) (n1 := 8) q k) = BitVec.ofNat 32 k.val := by
      rw [row_bcast, lanes_row]
      exact lane_apply k
    show (((BitVec.setWidth 32 (IntOp.cmpi .eq _ _)).toInt : ℝ) : EReal) = _
    rw [e1, e2, WordCmp.cmpi_eq_ofNat (by omega) (by omega)]
    by_cases h : b = k
    · rw [if_pos h, h]; simp
    · rw [if_neg h]
      have : ¬ b.val = k.val := fun h' => h (Fin.ext h')
      simp [this]
  unfold k0_pay2
  show Ideal.fptosi 32 ((FloatOps.matmul (F := Ideal) (DotDims.plain 8 8 12) none _ _ _ : FVec Ideal S8x12 .f32)
    (ix2 (n0 := 8) (n1 := 12) q c)) = _
  rw [Ideal.matmul_plain_apply]
  have hz : (constant S8x12 .f32 0x00000000#32 : FVec Ideal S8x12 .f32) (ix2 (n0 := 8) (n1 := 12) q c) = (0 : EReal) :=
    Ideal.ofBits_zero_f32
  rw [hz, zero_add]
  have hs : (∑ k : Fin 8, (if b = k then (1 : EReal) else 0)
      * (((g (ix2 (n0 := 8) (n1 := 12) k c) : BitVec 32).toInt : ℝ) : EReal))
      = (((g (ix2 (n0 := 8) (n1 := 12) b c) : BitVec 32).toInt : ℝ) : EReal) := onehot_sum b _
  rw [Finset.sum_congr rfl (fun k _ => by rw [hone k])]
  exact (congrArg (Ideal.fptosi 32) hs).trans (fptosi_toInt _)

end Cert.Proof.Words

end
-- ==== Proof.Block.lean ====
/- What one grid point writes into its five output blocks. -/
module

public import proofs.«01_k».proof.Proof.Words
public import proofs.«01_k».proof.Proof.Gen.KernelIdeal.Frame

@[expose] public section

noncomputable section

namespace Cert.Proof.Block

open Idealize.ShloMosaic Idealize.ShloMosaic.ValueIdx Idealize.SL.Sem Idealize.ShloMosaic.Tactic
open Cert.KernelIdeal Cert.KernelIdeal.Gen Cert.Proof.Chain Cert.Proof.Words

theorem hz3 : (![0, 0, 0] : Fin 3 → Nat) = fun _ => 0 := by funext a; revert a; decide
theorem hz2 : (![0, 0] : Fin 2 → Nat) = fun _ => 0 := by funext a; revert a; decide

theorem ld0 (x : Vec Ideal S8x100000 .f32) :
    View.ld x (Rect.unit (s := S8x100000) ![0, 0] S8x100000.size inb_S8x100000_S8x100000_0_0) = x :=
  View.ld_unit_zero (S := S8x100000) hz2 _ x
theorem ld1 (x : Vec Ideal S8x1 .f32) :
    View.ld x (Rect.unit (s := S8x1) ![0, 0] S8x1.size inb_S8x1_S8x1_0_0) = x :=
  View.ld_unit_zero (S := S8x1) hz2 _ x
theorem ld2 (x : Vec Ideal S8x12 .i32) :
    View.ld x (Rect.unit (s := S8x12) ![0, 0] S8x12.size inb_S8x12_S8x12_0_0) = x :=
  View.ld_unit_zero (S := S8x12) hz2 _ x

section
variable (c : Dev nD) (i : grid0.Coords)
  (a1 : Memref sig .tc .vmem S8x100000 .f32) (h1 : a1.IsWhole) (a2 : Memref sig .tc .vmem S8x1 .f32) (h2 : a2.IsWhole)
  (a3 : Memref sig .tc .vmem S8x12 .i32) (h3 : a3.IsWhole) (a4 : Memref sig .tc .vmem S1x1x8 .f32) (h4 : a4.IsWhole)
  (a5 : Memref sig .tc .vmem S1x1x8 .f32) (h5 : a5.IsWhole) (a6 : Memref sig .tc .vmem S8x13 .i32) (h6 : a6.IsWhole)
  (a7 : Memref sig .tc .vmem S1x1x8 .i32) (h7 : a7.IsWhole) (a8 : Memref sig .tc .vmem S1x1x8 .i32) (h8 : a8.IsWhole)
  (x0 : Vec Ideal S8x100000 .f32) (x1 : Vec Ideal S8x1 .f32) (x2 : Vec Ideal S8x12 .i32)

/-- Output 3's block is the stored values. -/
theorem out3 : out0_A_3 c i a1 h1 a2 h2 a3 h3 a4 h4 a5 h5 a6 h6 a7 h7 a8 h8 x0 x1 x2 = k0_pay40 (vals x0 x1) := by
  unfold out0_A_3
  rw [View.read_writes_eq_canon _ _ _ (cover0_A_3 c i a1 h1 a2 h2 a3 h3 a4 h4 a5 h5 a6 h6 a7 h7 a8 h8 x0 x1 x2)]
  unfold kernelRun0_A
  dsimp only
  sl_unfold_words
  rw [View.canon_unit_zero (S := S1x1x8) hz3]
  simp only [View.readAt_eq_ld, h1.read_unread, h2.read_unread]
  show k0_pay40 (vals (View.ld x0 (Rect.unit (s := S8x100000) ![0, 0] S8x100000.size inb_S8x100000_S8x100000_0_0))
    (View.ld x1 (Rect.unit (s := S8x1) ![0, 0] S8x1.size inb_S8x1_S8x1_0_0))) = _
  rw [ld0, ld1]

/-- Output 4's block is the stored scores. -/
theorem out4 : out0_A_4 c i a1 h1 a2 h2 a3 h3 a4 h4 a5 h5 a6 h6 a7 h7 a8 h8 x0 x1 x2 = k0_pay41 (vals x0 x1) := by
  unfold out0_A_4
  rw [View.read_writes_eq_canon _ _ _ (cover0_A_4 c i a1 h1 a2 h2 a3 h3 a4 h4 a5 h5 a6 h6 a7 h7 a8 h8 x0 x1 x2)]
  unfold kernelRun0_A
  dsimp only
  sl_unfold_words
  rw [View.canon_unit_zero (S := S1x1x8) hz3]
  simp only [View.readAt_eq_ld, h1.read_unread, h2.read_unread]
  show k0_pay41 (vals (View.ld x0 (Rect.unit (s := S8x100000) ![0, 0] S8x100000.size inb_S8x100000_S8x100000_0_0)) (View.ld x1 (Rect.unit (s := S8x1) ![0, 0] S8x1.size inb_S8x1_S8x1_0_0))) = _
  rw [ld0, ld1]

/-- Output 6's block is the stored rows. -/
theorem out6 : out0_A_6 c i a1 h1 a2 h2 a3 h3 a4 h4 a5 h5 a6 h6 a7 h7 a8 h8 x0 x1 x2 = k0_pay42 (BitVec.ofNat 32 (i 0).val) (ids x0 x1) (steps3 x0 x1) (step4 x0 x1) := by
  unfold out0_A_6
  rw [View.read_writes_eq_canon _ _ _ (cover0_A_6 c i a1 h1 a2 h2 a3 h3 a4 h4 a5 h5 a6 h6 a7 h7 a8 h8 x0 x1 x2)]
  unfold kernelRun0_A
  dsimp only
  sl_unfold_words
  rw [View.canon_unit_zero (S := S1x1x8) hz3]
  simp only [View.readAt_eq_ld, h1.read_unread, h2.read_unread]
  show k0_pay42 (BitVec.ofNat 32 (i 0).val) (ids (View.ld x0 (Rect.unit (s := S8x100000) ![0, 0] S8x100000.size inb_S8x100000_S8x100000_0_0)) (View.ld x1 (Rect.unit (s := S8x1) ![0, 0] S8x1.size inb_S8x1_S8x1_0_0))) (steps3 (View.ld x0 (Rect.unit (s := S8x100000) ![0, 0] S8x100000.size inb_S8x100000_S8x100000_0_0)) (View.ld x1 (Rect.unit (s := S8x1) ![0, 0] S8x1.size inb_S8x1_S8x1_0_0))) (step4 (View.ld x0 (Rect.unit (s := S8x100000) ![0, 0] S8x100000.size inb_S8x100000_S8x100000_0_0)) (View.ld x1 (Rect.unit (s := S8x1) ![0, 0] S8x1.size inb_S8x1_S8x1_0_0))) = _
  rw [ld0, ld1]

/-- Output 7's block is the stored finished words. -/
theorem out7 : out0_A_7 c i a1 h1 a2 h2 a3 h3 a4 h4 a5 h5 a6 h6 a7 h7 a8 h8 x0 x1 x2 = k0_pay1 (k0_pay43 (ids x0 x1) (steps3 x0 x1) (step4 x0 x1)) := by
  unfold out0_A_7
  rw [View.read_writes_eq_canon _ _ _ (cover0_A_7 c i a1 h1 a2 h2 a3 h3 a4 h4 a5 h5 a6 h6 a7 h7 a8 h8 x0 x1 x2)]
  unfold kernelRun0_A
  dsimp only
  sl_unfold_words
  rw [View.canon_unit_zero (S := S1x1x8) hz3]
  simp only [View.readAt_eq_ld, h1.read_unread, h2.read_unread]
  show k0_pay1 (k0_pay43 (ids (View.ld x0 (Rect.unit (s := S8x100000) ![0, 0] S8x100000.size inb_S8x100000_S8x100000_0_0)) (View.ld x1 (Rect.unit (s := S8x1) ![0, 0] S8x1.size inb_S8x1_S8x1_0_0))) (steps3 (View.ld x0 (Rect.unit (s := S8x100000) ![0, 0] S8x100000.size inb_S8x100000_S8x100000_0_0)) (View.ld x1 (Rect.unit (s := S8x1) ![0, 0] S8x1.size inb_S8x1_S8x1_0_0))) (step4 (View.ld x0 (Rect.unit (s := S8x100000) ![0, 0] S8x100000.size inb_S8x100000_S8x100000_0_0)) (View.ld x1 (Rect.unit (s := S8x1) ![0, 0] S8x1.size inb_S8x1_S8x1_0_0)))) = _
  rw [ld0, ld1]

/-- Output 5's block: the column of tokens over the gathered histories. -/
theorem out5 : out0_A_5 c i a1 h1 a2 h2 a3 h3 a4 h4 a5 h5 a6 h6 a7 h7 a8 h8 x0 x1 x2 = View.canon (Val := Elt Ideal) (s := S8x13) (e := .i32)
      [⟨Rect.unit (s := S8x13) ![0, 12] S8x1.size inb_S8x13_S8x1_0_12, k0_pay3 (tokens x0 x1)⟩,
       ⟨Rect.unit (s := S8x13) ![0, 0] S8x12.size inb_S8x13_S8x12_0_0, k0_pay2 (F := Ideal) k0_pay6 (beams x0 x1) x2⟩] := by
  unfold out0_A_5
  rw [View.read_writes_eq_canon _ _ _ (cover0_A_5 c i a1 h1 a2 h2 a3 h3 a4 h4 a5 h5 a6 h6 a7 h7 a8 h8 x0 x1 x2)]
  unfold kernelRun0_A
  dsimp only
  sl_unfold_words
  simp only [View.readAt_eq_ld, h1.read_unread, h2.read_unread, h3.read_unread]
  show View.canon (Val := Elt Ideal) (s := S8x13) (e := .i32)
      [⟨Rect.unit (s := S8x13) ![0, 12] S8x1.size inb_S8x13_S8x1_0_12, k0_pay3 (tokens (View.ld x0 (Rect.unit (s := S8x100000) ![0, 0] S8x100000.size inb_S8x100000_S8x100000_0_0)) (View.ld x1 (Rect.unit (s := S8x1) ![0, 0] S8x1.size inb_S8x1_S8x1_0_0)))⟩,
       ⟨Rect.unit (s := S8x13) ![0, 0] S8x12.size inb_S8x13_S8x12_0_0, k0_pay2 (F := Ideal) k0_pay6 (beams (View.ld x0 (Rect.unit (s := S8x100000) ![0, 0] S8x100000.size inb_S8x100000_S8x100000_0_0)) (View.ld x1 (Rect.unit (s := S8x1) ![0, 0] S8x1.size inb_S8x1_S8x1_0_0))) (View.ld x2 (Rect.unit (s := S8x12) ![0, 0] S8x12.size inb_S8x12_S8x12_0_0))⟩] = _
  rw [ld0, ld1, ld2]

/-- Column `12` of output 5's block is the token column. -/
theorem out5_last (q : Fin 8) : out0_A_5 c i a1 h1 a2 h2 a3 h3 a4 h4 a5 h5 a6 h6 a7 h7 a8 h8 x0 x1 x2 (ix2 q ⟨12, by decide⟩) = k0_pay3 (tokens x0 x1) (ix2 q 0) := by
  rw [out5]
  have e : (ix2 q ⟨12, by decide⟩ : S8x13.Idx)
      = (Rect.unit (s := S8x13) ![0, 12] S8x1.size inb_S8x13_S8x1_0_12).emb (ix2 q 0) := by
    funext a
    refine Fin.ext ?_
    rw [Rect.emb_apply]
    match a with
    | ⟨0, _⟩ => exact (show q.val = 0 + 1 * q.val by omega)
    | ⟨1, _⟩ => rfl
  rw [e]
  exact View.canon_cons_emb _ _ _ _

/-- The first twelve columns of output 5's block are the gathered histories. -/
theorem out5_hist (q : Fin 8) (k : Fin 12) : out0_A_5 c i a1 h1 a2 h2 a3 h3 a4 h4 a5 h5 a6 h6 a7 h7 a8 h8 x0 x1 x2 (ix2 q ⟨k.val, by omega⟩)
    = k0_pay2 (F := Ideal) k0_pay6 (beams x0 x1) x2 (ix2 q k) := by
  rw [out5, View.canon_cons_of_not_mem]
  · have e : (ix2 q ⟨k.val, by omega⟩ : S8x13.Idx)
        = (Rect.unit (s := S8x13) ![0, 0] S8x12.size inb_S8x13_S8x12_0_0).emb (ix2 q k) := by
      funext a
      refine Fin.ext ?_
      rw [Rect.emb_apply]
      match a with
      | ⟨0, _⟩ => exact (show q.val = 0 + 1 * q.val by omega)
      | ⟨1, _⟩ => exact (show k.val = 0 + 1 * k.val by omega)
    rw [e]
    exact View.canon_cons_emb _ _ _ _
  · intro h
    have h' := (Rect.mem_set_unit (s := S8x13) (off := ![0, 12]) (size := S8x1.size)
      (inb := inb_S8x13_S8x1_0_12)).mp h 1
    have h'' : 12 ≤ k.val := h'.1
    omega

end
end Cert.Proof.Block
-- ==== Proof.Arrays.lean ====
/- What the five result arrays hold after the last grid point, and what a grid point reads of the arguments. -/
module

public import proofs.«01_k».proof.Proof.Block

@[expose] public section

noncomputable section

namespace Cert.Proof.Arrays

open Idealize.ShloMosaic Idealize.ShloMosaic.ValueIdx Idealize.SL.Sem Idealize.ShloMosaic.Tactic
open Cert.KernelIdeal Cert.KernelIdeal.Gen Cert.Proof.Round Cert.Proof.Chain Cert.Proof.Words Cert.Proof.Block

variable (m : (ℓ : Loc nD τ sig) → Buf (Elt Ideal) ℓ) (c : Dev nD)

/-- A grid point is one of thirty-two. -/
theorem lt32 (t : Fin cfg0.N) : t.val < 32 := t.isLt.trans_le (le_of_eq N_0)

/-- The grid coordinate of point `t` is `t`. -/
theorem coord_eq : ∀ t : Fin cfg0.N, (grid0.coords t 0).val = t.val := by decide +kernel

/-- Window 0 of point `t` is the block at row `t`. -/
theorem idx0 : ∀ t : Fin cfg0.N, win0_0.index t 0 = t.val ∧ win0_0.index t 1 = 0 := by decide +kernel

/-- Window 1 of point `t` is the block at row `t`. -/
theorem idx1 : ∀ t : Fin cfg0.N, win0_1.index t 0 = t.val ∧ win0_1.index t 1 = 0 := by decide +kernel

/-- Window 2 of point `t` is the block at row `t`. -/
theorem idx2 : ∀ t : Fin cfg0.N, win0_2.index t 0 = t.val ∧ win0_2.index t 1 = 0 := by decide +kernel

/-- Window 3 of point `t` is the block at row `t`. -/
theorem idx3 : ∀ t : Fin cfg0.N, win0_3.index t 0 = t.val ∧ win0_3.index t 1 = 0 ∧ win0_3.index t 2 = 0 := by decide +kernel

/-- Window 4 of point `t` is the block at row `t`. -/
theorem idx4 : ∀ t : Fin cfg0.N, win0_4.index t 0 = t.val ∧ win0_4.index t 1 = 0 ∧ win0_4.index t 2 = 0 := by decide +kernel

/-- Window 5 of point `t` is the block at row `t`. -/
theorem idx5 : ∀ t : Fin cfg0.N, win0_5.index t 0 = t.val ∧ win0_5.index t 1 = 0 := by decide +kernel

/-- Window 6 of point `t` is the block at row `t`. -/
theorem idx6 : ∀ t : Fin cfg0.N, win0_6.index t 0 = t.val ∧ win0_6.index t 1 = 0 ∧ win0_6.index t 2 = 0 := by decide +kernel

/-- Window 7 of point `t` is the block at row `t`. -/
theorem idx7 : ∀ t : Fin cfg0.N, win0_7.index t 0 = t.val ∧ win0_7.index t 1 = 0 ∧ win0_7.index t 2 = 0 := by decide +kernel

/-- The blocks of window 3 at two points are disjoint. -/
theorem disj3 (t t' : Fin cfg0.N) (h : t ≠ t') :
    Disjoint ((cfg0.win 3).blk t).view.set ((cfg0.win 3).blk t').view.set := by
  show Disjoint ((View.whole main_v1_0).slice (win0_3.rect t)).set ((View.whole main_v1_0).slice (win0_3.rect t')).set
  rw [View.set_slice_whole, View.set_slice_whole]
  have hv : t.val ≠ t'.val := fun e => h (Fin.ext e)
  refine Rect.unit_disjoint 0 ?_
  show win0_3.index t 0 * 1 + 1 ≤ win0_3.index t' 0 * 1 ∨ win0_3.index t' 0 * 1 + 1 ≤ win0_3.index t 0 * 1
  rw [(idx3 t).1, (idx3 t').1]
  omega

/-- Row `t` of window 3's array is point `t`'s block. -/
theorem arr3 (t : Fin cfg0.N) (q : Fin 8) :
    (dats m 0 c).arrAt 3 cfg0.N (ix3 ⟨t.val, lt32 t⟩ 0 q : S32x1x8.Idx) = (outsAt0 m c t).1 (ix3 0 0 q) := by
  have e : (ix3 ⟨t.val, lt32 t⟩ 0 q : S32x1x8.Idx) = ((cfg0.win 3).blk t).view.emb (ix3 0 0 q : S1x1x8.Idx) := by
    funext a
    refine Fin.ext ?_
    match a with
    | ⟨0, _⟩ =>
      refine ((Pipeline.Window.rect_emb_val win0_3 t (ix3 0 0 q : S1x1x8.Idx) 0).trans ?_).symm
      rw [(idx3 t).1]; exact Nat.mul_one _
    | ⟨1, _⟩ =>
      refine ((Pipeline.Window.rect_emb_val win0_3 t (ix3 0 0 q : S1x1x8.Idx) 1).trans ?_).symm
      rw [(idx3 t).2.1]; rfl
    | ⟨2, _⟩ =>
      refine ((Pipeline.Window.rect_emb_val win0_3 t (ix3 0 0 q : S1x1x8.Idx) 2).trans ?_).symm
      rw [(idx3 t).2.2, Nat.zero_mul, Nat.zero_add]
      rfl
  rw [e]
  refine ((dats m 0 c).arrAt_emb_eq_flushed 3 (fun t t' _ _ => disj3 t t') t (flush0_3 t) (ix3 0 0 q)).trans ?_
  show (dats m 0 c).after 3 t (ix3 0 0 q) = _
  rw [after0_3]

/-- The blocks of window 4 at two points are disjoint. -/
theorem disj4 (t t' : Fin cfg0.N) (h : t ≠ t') :
    Disjoint ((cfg0.win 4).blk t).view.set ((cfg0.win 4).blk t').view.set := by
  show Disjoint ((View.whole main_v1_1).slice (win0_4.rect t)).set ((View.whole main_v1_1).slice (win0_4.rect t')).set
  rw [View.set_slice_whole, View.set_slice_whole]
  have hv : t.val ≠ t'.val := fun e => h (Fin.ext e)
  refine Rect.unit_disjoint 0 ?_
  show win0_4.index t 0 * 1 + 1 ≤ win0_4.index t' 0 * 1 ∨ win0_4.index t' 0 * 1 + 1 ≤ win0_4.index t 0 * 1
  rw [(idx4 t).1, (idx4 t').1]
  omega

/-- Row `t` of window 4's array is point `t`'s block. -/
theorem arr4 (t : Fin cfg0.N) (q : Fin 8) :
    (dats m 0 c).arrAt 4 cfg0.N (ix3 ⟨t.val, lt32 t⟩ 0 q : S32x1x8.Idx) = (outsAt0 m c t).2.1 (ix3 0 0 q) := by
  have e : (ix3 ⟨t.val, lt32 t⟩ 0 q : S32x1x8.Idx) = ((cfg0.win 4).blk t).view.emb (ix3 0 0 q : S1x1x8.Idx) := by
    funext a
    refine Fin.ext ?_
    match a with
    | ⟨0, _⟩ =>
      refine ((Pipeline.Window.rect_emb_val win0_4 t (ix3 0 0 q : S1x1x8.Idx) 0).trans ?_).symm
      rw [(idx4 t).1]; exact Nat.mul_one _
    | ⟨1, _⟩ =>
      refine ((Pipeline.Window.rect_emb_val win0_4 t (ix3 0 0 q : S1x1x8.Idx) 1).trans ?_).symm
      rw [(idx4 t).2.1]; rfl
    | ⟨2, _⟩ =>
      refine ((Pipeline.Window.rect_emb_val win0_4 t (ix3 0 0 q : S1x1x8.Idx) 2).trans ?_).symm
      rw [(idx4 t).2.2, Nat.zero_mul, Nat.zero_add]
      rfl
  rw [e]
  refine ((dats m 0 c).arrAt_emb_eq_flushed 4 (fun t t' _ _ => disj4 t t') t (flush0_4 t) (ix3 0 0 q)).trans ?_
  show (dats m 0 c).after 4 t (ix3 0 0 q) = _
  rw [after0_4]

/-- The blocks of window 5 at two points are disjoint. -/
theorem disj5 (t t' : Fin cfg0.N) (h : t ≠ t') :
    Disjoint ((cfg0.win 5).blk t).view.set ((cfg0.win 5).blk t').view.set := by
  show Disjoint ((View.whole main_v1_2).slice (win0_5.rect t)).set ((View.whole main_v1_2).slice (win0_5.rect t')).set
  rw [View.set_slice_whole, View.set_slice_whole]
  have hv : t.val ≠ t'.val := fun e => h (Fin.ext e)
  refine Rect.unit_disjoint 0 ?_
  show win0_5.index t 0 * 8 + 8 ≤ win0_5.index t' 0 * 8 ∨ win0_5.index t' 0 * 8 + 8 ≤ win0_5.index t 0 * 8
  rw [(idx5 t).1, (idx5 t').1]
  omega

/-- Row `8 t + q` of window 5's array is row `q` of point `t`'s block. -/
theorem arr5 (t : Fin cfg0.N) (q : Fin 8) (k : Fin 13) (h : t.val * 8 + q.val < 256) :
    (dats m 0 c).arrAt 5 cfg0.N (ix2 ⟨t.val * 8 + q.val, h⟩ k : S256x13.Idx) = (outsAt0 m c t).2.2.1 (ix2 q k) := by
  have e : (ix2 ⟨t.val * 8 + q.val, h⟩ k : S256x13.Idx) = ((cfg0.win 5).blk t).view.emb (ix2 q k : S8x13.Idx) := by
    funext a
    refine Fin.ext ?_
    match a with
    | ⟨0, _⟩ =>
      refine ((Pipeline.Window.rect_emb_val win0_5 t (ix2 q k : S8x13.Idx) 0).trans ?_).symm
      rw [(idx5 t).1]; rfl
    | ⟨1, _⟩ =>
      refine ((Pipeline.Window.rect_emb_val win0_5 t (ix2 q k : S8x13.Idx) 1).trans ?_).symm
      rw [(idx5 t).2, Nat.zero_mul, Nat.zero_add]
      rfl
  rw [e]
  refine ((dats m 0 c).arrAt_emb_eq_flushed 5 (fun t t' _ _ => disj5 t t') t (flush0_5 t) (ix2 q k)).trans ?_
  show (dats m 0 c).after 5 t (ix2 q k) = _
  rw [after0_5]

/-- The blocks of window 6 at two points are disjoint. -/
theorem disj6 (t t' : Fin cfg0.N) (h : t ≠ t') :
    Disjoint ((cfg0.win 6).blk t).view.set ((cfg0.win 6).blk t').view.set := by
  show Disjoint ((View.whole main_v1_3).slice (win0_6.rect t)).set ((View.whole main_v1_3).slice (win0_6.rect t')).set
  rw [View.set_slice_whole, View.set_slice_whole]
  have hv : t.val ≠ t'.val := fun e => h (Fin.ext e)
  refine Rect.unit_disjoint 0 ?_
  show win0_6.index t 0 * 1 + 1 ≤ win0_6.index t' 0 * 1 ∨ win0_6.index t' 0 * 1 + 1 ≤ win0_6.index t 0 * 1
  rw [(idx6 t).1, (idx6 t').1]
  omega

/-- Row `t` of window 6's array is point `t`'s block. -/
theorem arr6 (t : Fin cfg0.N) (q : Fin 8) :
    (dats m 0 c).arrAt 6 cfg0.N (ix3 ⟨t.val, lt32 t⟩ 0 q : S32x1x8.Idx) = (outsAt0 m c t).2.2.2.1 (ix3 0 0 q) := by
  have e : (ix3 ⟨t.val, lt32 t⟩ 0 q : S32x1x8.Idx) = ((cfg0.win 6).blk t).view.emb (ix3 0 0 q : S1x1x8.Idx) := by
    funext a
    refine Fin.ext ?_
    match a with
    | ⟨0, _⟩ =>
      refine ((Pipeline.Window.rect_emb_val win0_6 t (ix3 0 0 q : S1x1x8.Idx) 0).trans ?_).symm
      rw [(idx6 t).1]; exact Nat.mul_one _
    | ⟨1, _⟩ =>
      refine ((Pipeline.Window.rect_emb_val win0_6 t (ix3 0 0 q : S1x1x8.Idx) 1).trans ?_).symm
      rw [(idx6 t).2.1]; rfl
    | ⟨2, _⟩ =>
      refine ((Pipeline.Window.rect_emb_val win0_6 t (ix3 0 0 q : S1x1x8.Idx) 2).trans ?_).symm
      rw [(idx6 t).2.2, Nat.zero_mul, Nat.zero_add]
      rfl
  rw [e]
  refine ((dats m 0 c).arrAt_emb_eq_flushed 6 (fun t t' _ _ => disj6 t t') t (flush0_6 t) (ix3 0 0 q)).trans ?_
  show (dats m 0 c).after 6 t (ix3 0 0 q) = _
  rw [after0_6]

/-- The blocks of window 7 at two points are disjoint. -/
theorem disj7 (t t' : Fin cfg0.N) (h : t ≠ t') :
    Disjoint ((cfg0.win 7).blk t).view.set ((cfg0.win 7).blk t').view.set := by
  show Disjoint ((View.whole main_v1_4).slice (win0_7.rect t)).set ((View.whole main_v1_4).slice (win0_7.rect t')).set
  rw [View.set_slice_whole, View.set_slice_whole]
  have hv : t.val ≠ t'.val := fun e => h (Fin.ext e)
  refine Rect.unit_disjoint 0 ?_
  show win0_7.index t 0 * 1 + 1 ≤ win0_7.index t' 0 * 1 ∨ win0_7.index t' 0 * 1 + 1 ≤ win0_7.index t 0 * 1
  rw [(idx7 t).1, (idx7 t').1]
  omega

/-- Row `t` of window 7's array is point `t`'s block. -/
theorem arr7 (t : Fin cfg0.N) (q : Fin 8) :
    (dats m 0 c).arrAt 7 cfg0.N (ix3 ⟨t.val, lt32 t⟩ 0 q : S32x1x8.Idx) = (outsAt0 m c t).2.2.2.2 (ix3 0 0 q) := by
  have e : (ix3 ⟨t.val, lt32 t⟩ 0 q : S32x1x8.Idx) = ((cfg0.win 7).blk t).view.emb (ix3 0 0 q : S1x1x8.Idx) := by
    funext a
    refine Fin.ext ?_
    match a with
    | ⟨0, _⟩ =>
      refine ((Pipeline.Window.rect_emb_val win0_7 t (ix3 0 0 q : S1x1x8.Idx) 0).trans ?_).symm
      rw [(idx7 t).1]; exact Nat.mul_one _
    | ⟨1, _⟩ =>
      refine ((Pipeline.Window.rect_emb_val win0_7 t (ix3 0 0 q : S1x1x8.Idx) 1).trans ?_).symm
      rw [(idx7 t).2.1]; rfl
    | ⟨2, _⟩ =>
      refine ((Pipeline.Window.rect_emb_val win0_7 t (ix3 0 0 q : S1x1x8.Idx) 2).trans ?_).symm
      rw [(idx7 t).2.2, Nat.zero_mul, Nat.zero_add]
      rfl
  rw [e]
  refine ((dats m 0 c).arrAt_emb_eq_flushed 7 (fun t t' _ _ => disj7 t t') t (flush0_7 t) (ix3 0 0 q)).trans ?_
  show (dats m 0 c).after 7 t (ix3 0 0 q) = _
  rw [after0_7]

/-- Window 0's block at point `t` is rows `8 t` to `8 t + 7` of its argument. -/
theorem blk0 (t : Fin cfg0.N) (r : Fin 8) (v : Fin 100000) (h : t.val * 8 + r.val < 256) :
    iblk m c 0 t (ix2 r v : S8x100000.Idx) = m ((c.tc : Thread nD τ).loc main_arg0) (ix2 ⟨t.val * 8 + r.val, h⟩ v : S256x100000.Idx) := by
  refine Eq.trans ?_ (congrFun (V_main_arg0 m c) _)
  show V m c main_arg0 (((cfg0.win 0).blk t).view.emb (ix2 r v : S8x100000.Idx)) = _
  refine congrArg (V m c main_arg0) ?_
  funext a
  refine Fin.ext ?_
  match a with
  | ⟨0, _⟩ =>
    refine (Pipeline.Window.rect_emb_val win0_0 t (ix2 r v : S8x100000.Idx) 0).trans ?_
    rw [(idx0 t).1]; rfl
  | ⟨1, _⟩ =>
    refine (Pipeline.Window.rect_emb_val win0_0 t (ix2 r v : S8x100000.Idx) 1).trans ?_
    rw [(idx0 t).2, Nat.zero_mul, Nat.zero_add]
    rfl

/-- Window 2's block at point `t` is rows `8 t` to `8 t + 7` of its argument. -/
theorem blk2 (t : Fin cfg0.N) (r : Fin 8) (v : Fin 12) (h : t.val * 8 + r.val < 256) :
    iblk m c 2 t (ix2 r v : S8x12.Idx) = m ((c.tc : Thread nD τ).loc main_arg2) (ix2 ⟨t.val * 8 + r.val, h⟩ v : S256x12.Idx) := by
  refine Eq.trans ?_ (congrFun (V_main_arg2 m c) _)
  show V m c main_arg2 (((cfg0.win 2).blk t).view.emb (ix2 r v : S8x12.Idx)) = _
  refine congrArg (V m c main_arg2) ?_
  funext a
  refine Fin.ext ?_
  match a with
  | ⟨0, _⟩ =>
    refine (Pipeline.Window.rect_emb_val win0_2 t (ix2 r v : S8x12.Idx) 0).trans ?_
    rw [(idx2 t).1]; rfl
  | ⟨1, _⟩ =>
    refine (Pipeline.Window.rect_emb_val win0_2 t (ix2 r v : S8x12.Idx) 1).trans ?_
    rw [(idx2 t).2, Nat.zero_mul, Nat.zero_add]
    rfl

/-- The bias column the first host operation makes is the bias vector. -/
theorem V_main_v0 : V m c main_v0 = shapeCast S256x1 (m ((c.tc : Thread nD τ).loc main_arg1)) shapeCasts_S256_S256x1 := by
  show StableHlo.after (List.flatten [hostOps0]) (fun b => m (c, b)) (Proc.devRef .tc main_v0) = _
  simp only [hostOps0, List.flatten_cons, List.flatten_nil, List.append_nil]
  after_results
  rfl

/-- Window 1's block at point `t` is entries `8 t` to `8 t + 7` of the bias vector. -/
theorem blk1 (t : Fin cfg0.N) (r : Fin 8) (h : t.val * 8 + r.val < 256) :
    iblk m c 1 t (ix2 r 0 : S8x1.Idx) = m ((c.tc : Thread nD τ).loc main_arg1) (ix1 ⟨t.val * 8 + r.val, h⟩ : S256.Idx) := by
  have e : ((cfg0.win 1).blk t).view.emb (ix2 r 0 : S8x1.Idx) = (ix2 ⟨t.val * 8 + r.val, h⟩ 0 : S256x1.Idx) := by
    funext a
    refine Fin.ext ?_
    match a with
    | ⟨0, _⟩ =>
      refine (Pipeline.Window.rect_emb_val win0_1 t (ix2 r 0 : S8x1.Idx) 0).trans ?_
      rw [(idx1 t).1]; rfl
    | ⟨1, _⟩ =>
      refine (Pipeline.Window.rect_emb_val win0_1 t (ix2 r 0 : S8x1.Idx) 1).trans ?_
      rw [(idx1 t).2, Nat.zero_mul, Nat.zero_add]
      rfl
  show V m c main_v0 (((cfg0.win 1).blk t).view.emb (ix2 r 0 : S8x1.Idx)) = _
  rw [e, V_main_v0]
  refine shapeCast_apply _ _ _ _ ?_
  refine (Shape.rowMajor_val_one (d := S256.size) _).trans (Eq.trans ?_ (Shape.rowMajor_val_two (d := S256x1.size) _).symm)
  show t.val * 8 + r.val = (t.val * 8 + r.val) * 1 + 0
  omega

end Cert.Proof.Arrays
-- ==== Proof.Spec.lean ====
/- The mathematics both programs compute: the scores of a batch's candidates and the `q`-th best of them. -/
module

public import proofs.«01_k».proof.Proof.Chain

@[expose] public section

noncomputable section

namespace Cert.Proof.Spec

open Idealize.ShloMosaic Idealize.ShloMosaic.ValueIdx Idealize.SL.Sem
open Cert.KernelIdeal Cert.Proof.Rounds Cert.Proof.Round Cert.Proof.Chain

variable (lp : FVec Ideal S256x100000 .f32) (bias : FVec Ideal S256 .f32)

/-- The value the forced-unlikely column holds: the constant the program writes there. -/
def floor : EReal := Ideal.ofBits .f32 0xE0AD78EC#32

/-- Row `8 b + p / 100000` of the table: the beam that flat candidate `p` of batch `b` extends. -/
def row (b : Fin 32) (p : Fin 800000) : Fin 256 := ⟨b.val * 8 + p.val / 100000, by omega⟩

/-- The token that flat candidate `p` appends. -/
def tok (p : Fin 800000) : Fin 100000 := ⟨p.val % 100000, Nat.mod_lt _ (by decide)⟩

/-- The score of flat candidate `p` of batch `b`: its log probability plus its beam's bias, the
    column of token `2` being replaced by a constant. -/
def ent (b : Fin 32) (p : Fin 800000) : EReal :=
  if p.val % 100000 = 2 then floor else lp (ix2 (row b p) (tok p)) + bias (ix1 (row b p))

/-- The `q`-th best candidate of batch `b`, the lower flat position first among equals. -/
def pick (b : Fin 32) (q : Fin 8) : Fin 800000 :=
  sortedFrom (fun i j => decide (ent lp bias b j < ent lp bias b i)) (q.castLE (by decide))

/-- The `q`-th best score. -/
def best (b : Fin 32) (q : Fin 8) : EReal := ent lp bias b (pick lp bias b q)

end Cert.Proof.Spec
-- ==== Proof.KerSide.lean ====
/- The kernel's five result arrays, entry by entry, in the words of Spec. -/
module

public import proofs.«01_k».proof.Proof.Arrays
public import proofs.«01_k».proof.Proof.Spec

@[expose] public section

noncomputable section

namespace Cert.Proof.KerSide

open Idealize.ShloMosaic Idealize.ShloMosaic.ValueIdx Idealize.SL.Sem Idealize.ShloMosaic.Tactic
open Cert.KernelIdeal Cert.KernelIdeal.Gen Cert.Proof.Round Cert.Proof.Chain Cert.Proof.Words Cert.Proof.Block
open Cert.Proof.Arrays Cert.Proof.Spec

/-- A column broadcast along its rows reads the column. -/
theorem bias_bcast (x : FVec Ideal S8x1 .f32) (r : Fin 8) (v : Fin 100000) :
    broadcastTo S8x100000 x broadcasts_S8x1_S8x100000 (ix2 r v) = x (ix2 (n0 := 8) (n1 := 1) r 0) := by
  refine broadcastTo_apply x _ _ (ix2 (n0 := 8) (n1 := 1) r 0) fun a => ?_
  match a with
  | ⟨0, _⟩ => rfl
  | ⟨1, _⟩ => rfl

/-- A constant chosen where a column number is two. -/
theorem masked (v : Nat) (hv : v < 100000) (a b : EReal) :
    Scalar.select (IntOp.cmpi .eq (BitVec.ofNat 32 v) 2#32) a b = if v = 2 then a else b := by
  rw [show (2#32 : BitVec 32) = BitVec.ofNat 32 2 from rfl, WordCmp.cmpi_eq_ofNat (by omega) (by omega), WordCmp.select_decide]

/-- The masked table of a block, entry by entry. -/
theorem pay5_apply (x0 : Vec Ideal S8x100000 .f32) (x1 : Vec Ideal S8x1 .f32) (r : Fin 8) (v : Fin 100000) :
    (k0_pay5 x0 x1 (ix2 r v) : EReal)
      = if v.val = 2 then Spec.floor else (x0 (ix2 r v) : EReal) + x1 (ix2 (n0 := 8) (n1 := 1) r 0) := by
  unfold k0_pay5
  dsimp only
  rw [WordCmp.select_at, WordCmp.cmpi_at, WordCmp.broadcast_at, WordCmp.broadcast_at, WordCmp.iota_at, shapeCast_self,
    show addf (F := Ideal) x0 (broadcastTo S8x100000 x1 broadcasts_S8x1_S8x100000) (ix2 r v)
      = (x0 (ix2 r v) : EReal) + (broadcastTo S8x100000 x1 broadcasts_S8x1_S8x100000 (ix2 r v) : EReal) from rfl, bias_bcast]
  have e : ([1] : List (Fin S8x100000.rank)).foldl (fun n a => n * S8x100000.size a + ((ix2 r v : S8x100000.Idx) a).val) 0 = v.val := by
    show 0 * _ + v.val = v.val
    omega
  rw [e]
  exact masked v.val v.isLt _ _

variable (m : (ℓ : Loc nD τ sig) → Buf (Elt Ideal) ℓ) (c : Dev nD)

/-- The log probabilities of a device. -/
abbrev lpOf : FVec Ideal S256x100000 .f32 := m ((c.tc : Thread nD τ).loc main_arg0)
/-- The bias vector of a device. -/
abbrev biasOf : FVec Ideal S256 .f32 := m ((c.tc : Thread nD τ).loc main_arg1)
/-- The histories of a device. -/
abbrev gbOf : IVec S256x12 32 := m ((c.tc : Thread nD τ).loc main_arg2)

/-- The masked table of point `t`'s blocks. -/
abbrev tab (t : Fin cfg0.N) : FVec Ideal S8x100000 .f32 := k0_pay5 (F := Ideal) (iblk m c 0 t) (iblk m c 1 t)

/-- The masked table at a flat candidate is the candidate's score. -/
theorem tab_cell (t : Fin cfg0.N) (p : Fin 800000) :
    (tab m c t (cell p) : EReal) = ent (lpOf m c) (biasOf m c) ⟨t.val, lt32 t⟩ p := by
  have hr : t.val * 8 + p.val / 100000 < 256 := by have := lt32 t; have := p.isLt; omega
  refine (pay5_apply _ _ ⟨p.val / 100000, by have := p.isLt; omega⟩ ⟨p.val % 100000, Nat.mod_lt _ (by decide)⟩).trans ?_
  unfold ent
  refine if_congr Iff.rfl rfl ?_
  exact congrArg₂ (fun a b : EReal => a + b) (blk0 m c t _ _ hr) (blk1 m c t _ hr)

/-- The forced-unlikely constant is a finite number. -/
theorem floor_ne : Spec.floor ≠ ⊥ := by
  unfold Spec.floor
  show Ideal.ieee 8 23 0xE0AD78EC#32 ≠ ⊥
  unfold Ideal.ieee
  dsimp only
  rw [if_neg (by decide), if_neg (by decide)]
  exact EReal.coe_ne_bot _

/-- Every beam of a block has a candidate that is not bottom. -/
theorem tab_finite (t : Fin cfg0.N) : EosFinite (tab m c t) := by
  intro r
  rw [tab_cell]
  unfold ent
  rw [if_pos (by show (eosAt r).val % 100000 = 2; unfold eosAt; dsimp only; omega)]
  exact floor_ne

/-- The candidate the block's `q`-th round picks is the batch's `q`-th best. -/
theorem sel_eq (t : Fin cfg0.N) (q : Fin 8) : sel (tab m c t) q = pick (lpOf m c) (biasOf m c) ⟨t.val, lt32 t⟩ q := by
  unfold sel pick
  have e : (fun i j => decide ((tab m c t (cell j) : EReal) < tab m c t (cell i)))
      = fun i j => decide (ent (lpOf m c) (biasOf m c) ⟨t.val, lt32 t⟩ j < ent (lpOf m c) (biasOf m c) ⟨t.val, lt32 t⟩ i) := by
    funext i j
    rw [tab_cell, tab_cell]
  exact congrArg (fun f => sortedFrom f (q.castLE (by decide))) e

/-- The scores written back by point `t`. -/
theorem vals_block (t : Fin cfg0.N) (q : Fin 8) :
    ((dats m 0 c).arrAt 3 cfg0.N (ix3 ⟨t.val, lt32 t⟩ 0 q : S32x1x8.Idx) : EReal)
      = best (lpOf m c) (biasOf m c) ⟨t.val, lt32 t⟩ q := by
  refine (arr3 m c t q).trans ?_
  unfold outsAt0
  dsimp only
  rw [out3]
  refine (vals_store _ _ (tab_finite m c t) q).trans ?_
  rw [sel_eq]
  exact tab_cell m c t _

/-- The normalised scores written back by point `t`. -/
theorem scores_block (t : Fin cfg0.N) (q : Fin 8) :
    ((dats m 0 c).arrAt 4 cfg0.N (ix3 ⟨t.val, lt32 t⟩ 0 q : S32x1x8.Idx) : EReal)
      = Ideal.div (best (lpOf m c) (biasOf m c) ⟨t.val, lt32 t⟩ q) (Ideal.ofBits .f32 0x3FB82491#32) := by
  refine (arr4 m c t q).trans ?_
  unfold outsAt0
  dsimp only
  rw [out4]
  refine (scores_store _ _ (tab_finite m c t) q).trans ?_
  rw [sel_eq]
  exact congrArg (fun z => Ideal.div z (Ideal.ofBits .f32 0x3FB82491#32)) (tab_cell m c t _)

/-- The rows written back by point `t`. -/
theorem rows_block (t : Fin cfg0.N) (q : Fin 8) :
    (dats m 0 c).arrAt 6 cfg0.N (ix3 ⟨t.val, lt32 t⟩ 0 q : S32x1x8.Idx)
      = BitVec.ofNat 32 ((pick (lpOf m c) (biasOf m c) ⟨t.val, lt32 t⟩ q).val / 100000 + t.val * 8) := by
  refine (arr6 m c t q).trans ?_
  unfold outsAt0
  dsimp only
  rw [out6, coord_eq]
  refine (rows_apply _ _ (tab_finite m c t) q _ (lt32 t)).trans ?_
  rw [sel_eq]

/-- The finish words written back by point `t`. -/
theorem fin_block (t : Fin cfg0.N) (q : Fin 8) :
    (dats m 0 c).arrAt 7 cfg0.N (ix3 ⟨t.val, lt32 t⟩ 0 q : S32x1x8.Idx)
      = BitVec.ofNat 32 (if (pick (lpOf m c) (biasOf m c) ⟨t.val, lt32 t⟩ q).val % 100000 = 2 then 1 else 0) := by
  refine (arr7 m c t q).trans ?_
  unfold outsAt0
  dsimp only
  rw [out7]
  refine (fin_apply _ _ (tab_finite m c t) q).trans ?_
  rw [sel_eq]

/-- The last column of the beams written back by point `t`. -/
theorem last_block (t : Fin cfg0.N) (q : Fin 8) (h : t.val * 8 + q.val < 256) :
    (dats m 0 c).arrAt 5 cfg0.N (ix2 ⟨t.val * 8 + q.val, h⟩ ⟨12, by decide⟩ : S256x13.Idx)
      = BitVec.ofNat 32 ((pick (lpOf m c) (biasOf m c) ⟨t.val, lt32 t⟩ q).val % 100000) := by
  refine (arr5 m c t q _ h).trans ?_
  unfold outsAt0
  dsimp only
  rw [out5_last]
  refine (last_store _ _ (tab_finite m c t) q).trans ?_
  rw [sel_eq]

/-- The first twelve columns of the beams written back by point `t`. -/
theorem hist_block (t : Fin cfg0.N) (q : Fin 8) (k : Fin 12) (h : t.val * 8 + q.val < 256) :
    (dats m 0 c).arrAt 5 cfg0.N (ix2 ⟨t.val * 8 + q.val, h⟩ ⟨k.val, by omega⟩ : S256x13.Idx)
      = gbOf m c (ix2 (row ⟨t.val, lt32 t⟩ (pick (lpOf m c) (biasOf m c) ⟨t.val, lt32 t⟩ q)) k) := by
  refine (arr5 m c t q _ h).trans ?_
  unfold outsAt0
  dsimp only
  rw [out5_hist]
  refine (hist_store _ _ _ (tab_finite m c t) q k).trans ?_
  refine (blk2 m c t ⟨(sel (tab m c t) q).val / 100000, by have := (sel (tab m c t) q).isLt; omega⟩ k (row ⟨t.val, lt32 t⟩ (sel (tab m c t) q)).isLt).trans ?_
  rw [← sel_eq]
  rfl

end Cert.Proof.KerSide
-- ==== Proof.KerRun.lean ====
/- What the kernel's run leaves in its five results: the arrays of the pipeline and the host operations after it. -/
module

public import proofs.«01_k».proof.Proof.KerSide

@[expose] public section

noncomputable section

namespace Cert.Proof.KerRun

open Idealize.ShloMosaic Idealize.ShloMosaic.ValueIdx Idealize.SL.Sem Idealize.ShloMosaic.Tactic
open Cert.KernelIdeal Cert.KernelIdeal.Gen Cert.Proof.Arrays Cert.Proof.Spec Cert.Proof.KerSide

variable (m : (ℓ : Loc nD τ sig) → Buf (Elt Ideal) ℓ) (c : Dev nD)

/-- The eight windows have eight different arrays. -/
theorem arr_inj : Function.Injective (Pipeline.arrRef spec0) := by decide

/-- The contents after the region, at a window's array. -/
theorem region_arr (w : Fin cfg0.W) :
    Pipeline.withArrays spec0 c (V0 m c) (fun w => (dats m 0 c).arrAt w cfg0.N) (Proc.devRef .tc (Pipeline.arrRef spec0 w))
      = (dats m 0 c).arrAt w cfg0.N :=
  Pipeline.withArrays_arr spec0 arr_inj c (V0 m c) _ w

/-- The host line leaves `main_v5` at the reshape of window 3's array. -/
theorem tail_main_v5 : Pipeline.afterTail₀ cfgs (dats m) 0 (V0 m) [hostOps1] c main_v5
    = shapeCast S32x8 ((dats m 0 c).arrAt 3 cfg0.N : (⟨S32x1x8, .f32⟩ : BufTy).Contents (Elt Ideal)) shapeCasts_S32x1x8_S32x8 := by
  refine Eq.trans ?_ (congrArg (fun z => shapeCast S32x8 (z : (⟨S32x1x8, .f32⟩ : BufTy).Contents (Elt Ideal)) shapeCasts_S32x1x8_S32x8) (region_arr m c 3))
  unfold Pipeline.afterTail₀
  simp only [hostOps1, List.flatten_cons, List.flatten_nil, List.append_nil]
  after_results
  rfl

/-- The host line leaves `main_v6` at the reshape of window 4's array. -/
theorem tail_main_v6 : Pipeline.afterTail₀ cfgs (dats m) 0 (V0 m) [hostOps1] c main_v6
    = shapeCast S32x8 ((dats m 0 c).arrAt 4 cfg0.N : (⟨S32x1x8, .f32⟩ : BufTy).Contents (Elt Ideal)) shapeCasts_S32x1x8_S32x8 := by
  refine Eq.trans ?_ (congrArg (fun z => shapeCast S32x8 (z : (⟨S32x1x8, .f32⟩ : BufTy).Contents (Elt Ideal)) shapeCasts_S32x1x8_S32x8) (region_arr m c 4))
  unfold Pipeline.afterTail₀
  simp only [hostOps1, List.flatten_cons, List.flatten_nil, List.append_nil]
  after_results
  rfl

/-- The host line leaves `main_v7` at the reshape of window 6's array. -/
theorem tail_main_v7 : Pipeline.afterTail₀ cfgs (dats m) 0 (V0 m) [hostOps1] c main_v7
    = shapeCast S256 ((dats m 0 c).arrAt 6 cfg0.N : (⟨S32x1x8, .i32⟩ : BufTy).Contents (Elt Ideal)) shapeCasts_S32x1x8_S256 := by
  refine Eq.trans ?_ (congrArg (fun z => shapeCast S256 (z : (⟨S32x1x8, .i32⟩ : BufTy).Contents (Elt Ideal)) shapeCasts_S32x1x8_S256) (region_arr m c 6))
  unfold Pipeline.afterTail₀
  simp only [hostOps1, List.flatten_cons, List.flatten_nil, List.append_nil]
  after_results
  rfl

/-- The host line leaves `main_v8` at the test of window 7's array against zero. -/
theorem tail_main_v8 : Pipeline.afterTail₀ cfgs (dats m) 0 (V0 m) [hostOps1] c main_v8
    = shapeCast S32x8 (cmpi .ne ((dats m 0 c).arrAt 7 cfg0.N : (⟨S32x1x8, .i32⟩ : BufTy).Contents (Elt Ideal))
        (broadcastInDim S32x1x8 ![] bcast_S_S32x1x8 (constantI S_ 32 0#32))) shapeCasts_S32x1x8_S32x8 := by
  refine Eq.trans ?_ (congrArg (fun z => shapeCast S32x8 (cmpi .ne (z : (⟨S32x1x8, .i32⟩ : BufTy).Contents (Elt Ideal))
        (broadcastInDim S32x1x8 ![] bcast_S_S32x1x8 (constantI S_ 32 0#32))) shapeCasts_S32x1x8_S32x8) (region_arr m c 7))
  unfold Pipeline.afterTail₀
  simp only [hostOps1, List.flatten_cons, List.flatten_nil, List.append_nil]
  after_results
  rfl

/-- A batch-and-beam grid under a unit axis. -/
theorem grid_cast {α : Type} (x : S32x1x8.Idx → α) (b : Fin 32) (q : Fin 8) :
    shapeCast S32x8 x shapeCasts_S32x1x8_S32x8 (ix2 b q) = x (ix3 (n0 := 32) (n1 := 1) (n2 := 8) b 0 q) := by
  refine shapeCast_apply x _ _ (ix3 (n0 := 32) (n1 := 1) (n2 := 8) b 0 q) ?_
  refine (Shape.rowMajor_val_three (d := S32x1x8.size) _).trans (Eq.trans ?_ (Shape.rowMajor_val_two (d := S32x8.size) _).symm)
  show (b.val * 1 + 0) * 8 + q.val = b.val * 8 + q.val
  omega

/-- A batch-and-beam grid as one line of rows. -/
theorem line_cast {α : Type} (x : S32x1x8.Idx → α) (b : Fin 32) (q : Fin 8) (h : b.val * 8 + q.val < 256) :
    shapeCast S256 x shapeCasts_S32x1x8_S256 (ix1 (n := 256) ⟨b.val * 8 + q.val, h⟩) = x (ix3 (n0 := 32) (n1 := 1) (n2 := 8) b 0 q) := by
  refine shapeCast_apply x _ _ (ix3 (n0 := 32) (n1 := 1) (n2 := 8) b 0 q) ?_
  refine (Shape.rowMajor_val_three (d := S32x1x8.size) _).trans (Eq.trans ?_ (Shape.rowMajor_val_one (d := S256.size) _).symm)
  show (b.val * 1 + 0) * 8 + q.val = b.val * 8 + q.val
  omega

/-- A batch is a grid point. -/
theorem batch_lt (b : Fin 32) : b.val < cfg0.N := b.isLt.trans_le (le_of_eq N_0.symm)

/-- The third result's first twelve columns at row `8 b + q`: the history of the beam picked. -/
def r2h (b : Fin 32) (q : Fin 8) (k : Fin 12) : BitVec 32 :=
  gbOf m c (ix2 (row b (pick (lpOf m c) (biasOf m c) b q)) k)
/-- The third result's last column at row `8 b + q`: the token picked. -/
def r2t (b : Fin 32) (q : Fin 8) : BitVec 32 := BitVec.ofNat 32 ((pick (lpOf m c) (biasOf m c) b q).val % 100000)
/-- The fourth result at row `8 b + q`: the row of the beam picked. -/
def r3 (b : Fin 32) (q : Fin 8) : BitVec 32 :=
  BitVec.ofNat 32 ((pick (lpOf m c) (biasOf m c) b q).val / 100000 + b.val * 8)
/-- The fifth result: whether the token picked is two. -/
def r4 (b : Fin 32) (q : Fin 8) : BitVec 1 :=
  BitVec.ofBool (decide ((pick (lpOf m c) (biasOf m c) b q).val % 100000 = 2))

/-- The kernel's first result. -/
theorem ker0 (b : Fin 32) (q : Fin 8) :
    (Pipeline.afterTail₀ cfgs (dats m) 0 (V0 m) [hostOps1] c main_v5 (ix2 b q : S32x8.Idx) : EReal)
      = best (lpOf m c) (biasOf m c) b q := by
  rw [tail_main_v5]
  exact (grid_cast _ b q).trans (vals_block m c ⟨b.val, batch_lt b⟩ q)

/-- The kernel's second result. -/
theorem ker1 (b : Fin 32) (q : Fin 8) :
    (Pipeline.afterTail₀ cfgs (dats m) 0 (V0 m) [hostOps1] c main_v6 (ix2 b q : S32x8.Idx) : EReal)
      = Ideal.div (best (lpOf m c) (biasOf m c) b q) (Ideal.ofBits .f32 0x3FB82491#32) := by
  rw [tail_main_v6]
  exact (grid_cast _ b q).trans (scores_block m c ⟨b.val, batch_lt b⟩ q)

/-- The kernel's third result, history columns. -/
theorem ker2h (b : Fin 32) (q : Fin 8) (k : Fin 12) (h : b.val * 8 + q.val < 256) :
    (dats m 0 c).arrAt 5 cfg0.N (ix2 ⟨b.val * 8 + q.val, h⟩ ⟨k.val, by omega⟩ : S256x13.Idx) = r2h m c b q k :=
  hist_block m c ⟨b.val, batch_lt b⟩ q k h

/-- The kernel's third result, token column. -/
theorem ker2t (b : Fin 32) (q : Fin 8) (h : b.val * 8 + q.val < 256) :
    (dats m 0 c).arrAt 5 cfg0.N (ix2 ⟨b.val * 8 + q.val, h⟩ ⟨12, by decide⟩ : S256x13.Idx) = r2t m c b q :=
  last_block m c ⟨b.val, batch_lt b⟩ q h

/-- The kernel's fourth result. -/
theorem ker3 (b : Fin 32) (q : Fin 8) (h : b.val * 8 + q.val < 256) :
    Pipeline.afterTail₀ cfgs (dats m) 0 (V0 m) [hostOps1] c main_v7 (ix1 ⟨b.val * 8 + q.val, h⟩ : S256.Idx) = r3 m c b q := by
  rw [tail_main_v7]
  exact (line_cast _ b q h).trans (rows_block m c ⟨b.val, batch_lt b⟩ q)

/-- The kernel's fifth result. -/
theorem ker4 (b : Fin 32) (q : Fin 8) :
    Pipeline.afterTail₀ cfgs (dats m) 0 (V0 m) [hostOps1] c main_v8 (ix2 b q : S32x8.Idx) = r4 m c b q := by
  rw [tail_main_v8]
  refine (grid_cast _ b q).trans ?_
  rw [WordCmp.cmpi_at, WordCmp.broadcastInDim_constantI]
  refine (congrArg (fun z => IntOp.cmpi .ne z 0#32) (fin_block m c ⟨b.val, batch_lt b⟩ q)).trans ?_
  unfold r4
  by_cases e : (pick (lpOf m c) (biasOf m c) b q).val % 100000 = 2
  · rw [if_pos e, decide_eq_true e]; rfl
  · rw [if_neg e, decide_eq_false e]; rfl

end Cert.Proof.KerRun
-- ==== Proof.RefTable.lean ====
/- The reference's table of candidate scores and its eight best, read at an index. -/
module

public import proofs.«01_k».proof.Proof.Spec
public import proofs.«01_k».proof.Proof.Gen.ReferenceIdeal.Read
public import Idealize.ShloMosaic.Lib.Routing.OpsOne
public import Idealize.ShloMosaic.Lib.Routing.OpsSet

@[expose] public section

noncomputable section

namespace Cert.Proof.RefTable

open Idealize.ShloMosaic Idealize.ShloMosaic.ValueIdx Idealize.SL.Sem
open Cert.ReferenceIdeal Cert.ReferenceIdeal.Gen Cert.ReferenceIdeal.Read Cert.Proof.Spec

section Best
variable {α : Type} {A N K : Nat}

/-- An index of a rectangle with its second coordinate replaced. -/
theorem along_row (b : Fin A) (q p : Fin N) :
    (ix2 b q : (⟨2, ![A, N]⟩ : Shape).Idx).along (1 : Fin 2) p = ix2 b p := by
  funext a
  match a with
  | ⟨0, _⟩ => rfl
  | ⟨1, _⟩ => rfl

/-- The position holding the `q`-th best element of row `b`. -/
def rankOf (gt : α → α → BitVec 1) (x : (⟨2, ![A, N]⟩ : Shape).Idx → α) (b : Fin A) (q : Fin N) : Fin N :=
  sortedFrom (fun i j => gt (x (ix2 b i)) (x (ix2 b j)) == 1#1) q

/-- Sorting each row of a rectangle with its column numbers: the columns at an index. -/
theorem sort2_snd (gt : α → α → BitVec 1) (x : (⟨2, ![A, N]⟩ : Shape).Idx → α) (y : (⟨2, ![A, N]⟩ : Shape).Idx → BitVec 32)
    (b : Fin A) (q : Fin N) :
    (Host.sort2 ⟨2, ![A, N]⟩ 1 (fun l r => gt l.1 r.1) x y).2 (ix2 b q) = y (ix2 b (rankOf gt x b q)) := by
  unfold Host.sort2 rankOf
  rw [dif_pos (show 1 < 2 by decide)]
  refine (congrArg y (along_row b q _)).trans (congrArg (fun p => y (ix2 b p)) ?_)
  refine congrArg (fun f => sortedFrom f q) (funext fun i => funext fun j => ?_)
  exact congrArg₂ (fun u v => gt u v == 1#1) (congrArg x (along_row b q i)) (congrArg x (along_row b q j))

/-- Sorting each row of a rectangle: the values at an index. -/
theorem sort2_fst (gt : α → α → BitVec 1) (x : (⟨2, ![A, N]⟩ : Shape).Idx → α) (y : (⟨2, ![A, N]⟩ : Shape).Idx → BitVec 32)
    (b : Fin A) (q : Fin N) :
    (Host.sort2 ⟨2, ![A, N]⟩ 1 (fun l r => gt l.1 r.1) x y).1 (ix2 b q) = x (ix2 b (rankOf gt x b q)) := by
  unfold Host.sort2 rankOf
  rw [dif_pos (show 1 < 2 by decide)]
  refine (congrArg x (along_row b q _)).trans (congrArg (fun p => x (ix2 b p)) ?_)
  refine congrArg (fun f => sortedFrom f q) (funext fun i => funext fun j => ?_)
  exact congrArg₂ (fun u v => gt u v == 1#1) (congrArg x (along_row b q i)) (congrArg x (along_row b q j))

/-- The values `top_k` returns for the rows of a rectangle. -/
theorem topK_fst (gt : α → α → BitVec 1) (x : (⟨2, ![A, N]⟩ : Shape).Idx → α)
    (h : (⟨2, ![A, N]⟩ : Shape).Slices (fun _ => 0) ⟨2, ![A, K]⟩) (hK : K ≤ N) (b : Fin A) (q : Fin K) :
    (Host.topK ⟨2, ![A, K]⟩ 1 gt x h).1 (ix2 b q) = x (ix2 b (rankOf gt x b (q.castLE hK))) := by
  unfold Host.topK
  dsimp only
  rw [extractStridedSlice_apply (fun _ => 0) _ h (ix2 b q) (ix2 b (q.castLE hK)) (fun a => ?_)]
  · exact sort2_fst gt x _ b _
  · match a with
    | ⟨0, _⟩ => exact (Nat.zero_add _).symm
    | ⟨1, _⟩ => exact (Nat.zero_add _).symm

/-- The positions `top_k` returns for the rows of a rectangle. -/
theorem topK_snd (gt : α → α → BitVec 1) (x : (⟨2, ![A, N]⟩ : Shape).Idx → α)
    (h : (⟨2, ![A, N]⟩ : Shape).Slices (fun _ => 0) ⟨2, ![A, K]⟩) (hK : K ≤ N) (b : Fin A) (q : Fin K) :
    (Host.topK ⟨2, ![A, K]⟩ 1 gt x h).2 (ix2 b q) = BitVec.ofNat 32 (rankOf gt x b (q.castLE hK)).val := by
  unfold Host.topK
  dsimp only
  rw [extractStridedSlice_apply (fun _ => 0) _ h (ix2 b q) (ix2 b (q.castLE hK)) (fun a => ?_)]
  · refine (sort2_snd gt x _ b _).trans ?_
    rw [dif_pos (show 1 < 2 by decide)]
    rfl
  · match a with
    | ⟨0, _⟩ => exact (Nat.zero_add _).symm
    | ⟨1, _⟩ => exact (Nat.zero_add _).symm

end Best

variable (lp : FVec Ideal S256x100000 .f32) (bias : FVec Ideal S256 .f32)

/-- The column the masking writes is column two. -/
theorem col_two : (val_main_v3 (F := Ideal) (ix1 (0 : Fin 1))).toInt = ((⟨2, by decide⟩ : Fin 100000).val : Int) := by
  rw [val_main_v3_apply, val_main_c_apply]
  rfl

/-- The sum of a log probability and its beam's bias. -/
theorem v2_at (r : Fin 256) (v : Fin 100000) :
    (val_main_v2 (F := Ideal) lp bias (ix2 r v) : EReal) = lp (ix2 r v) + bias (ix1 r) := by
  rw [val_main_v2_apply, val_main_v1_apply, val_main_v0_apply]
  have e : idx_main_v0 (idx_main_v1 (ix2 r v)) = ix1 r := by
    funext a
    match a with
    | ⟨0, _⟩ => rfl
  rw [e]
  rfl

/-- The masked table at an entry. -/
theorem v5_at (r : Fin 256) (v : Fin 100000) :
    (val_main_v5 (F := Ideal) lp bias (ix2 r v) : EReal)
      = if v.val = 2 then Spec.floor else (lp (ix2 r v) : EReal) + bias (ix1 r) := by
  have L : ∀ w', scatter_S256x100000_S1_S256_0_1_1_0.resultIdx? (ix1 w') (val_main_v3 (F := Ideal)) = some (ix2 r v)
      ↔ w' = r ∧ v = (⟨2, by decide⟩ : Fin 100000) := fun w' =>
    Routing.lands_col scatter_S256x100000_S1_S256_0_1_1_0 rfl rfl (val_main_v3 (F := Ideal)) ⟨2, by decide⟩ col_two w' r v
  unfold val_main_v5
  by_cases hv : v.val = 2
  · rw [if_pos hv]
    refine Routing.scatter_set_hit _ _ _ _ _ Spec.floor (fun k _ => ?_) (ix1 r) ((L r).2 ⟨rfl, Fin.ext hv⟩)
    rw [val_main_v4_apply, val_main_cst_apply]
    rfl
  · rw [if_neg hv, Routing.scatter_set_miss _ _ _ _ _ (fun k hk => ?_)]
    · exact v2_at lp bias r v
    · have e : k = ix1 (k 0) := by
        funext a
        match a with
        | ⟨0, _⟩ => rfl
      rw [e] at hk
      exact hv (congrArg Fin.val ((L _).1 hk).2)

/-- The flattened masked table at a candidate is the candidate's score. -/
theorem v6_at (b : Fin 32) (p : Fin 800000) :
    (val_main_v6 (F := Ideal) lp bias (ix2 b p) : EReal) = ent lp bias b p := by
  rw [val_main_v6_apply]
  have hb := b.isLt
  have hp := p.isLt
  have e : idx_main_v6 (ix2 b p) = ix2 (row b p) (tok p) := by
    funext a
    match a with
    | ⟨0, _⟩ =>
      refine Fin.ext ?_
      show (b.val * 800000 + p.val) / 100000 = b.val * 8 + p.val / 100000
      omega
    | ⟨1, _⟩ =>
      refine Fin.ext ?_
      show (b.val * 800000 + p.val) % 100000 = p.val % 100000
      omega
  rw [e]
  exact v5_at lp bias (row b p) (tok p)

/-- The ordering of a batch's candidates by the reference is the one of `pick`. -/
theorem rank_pick (b : Fin 32) (q : Fin 8) :
    rankOf (A := 32) (N := 800000) (FloatOps.cmpfTotal (F := Ideal) (φ := .f32) .gt) (val_main_v6 (F := Ideal) lp bias) b (q.castLE (by decide))
      = pick lp bias b q := by
  unfold rankOf pick
  refine congrArg (fun f => sortedFrom f _) (funext fun i => funext fun j => ?_)
  rw [v6_at, v6_at]
  show (BitVec.ofBool (decide (ent lp bias b j < ent lp bias b i)) == 1#1) = _
  cases decide (ent lp bias b j < ent lp bias b i) <;> rfl

/-- The best scores. -/
theorem values_at (b : Fin 32) (q : Fin 8) :
    (val_main_values (F := Ideal) lp bias (ix2 b q) : EReal) = best lp bias b q := by
  unfold val_main_values
  refine (topK_fst (A := 32) (N := 800000) (K := 8) _ _ _ (by decide) b q).trans ?_
  rw [rank_pick]
  exact v6_at lp bias b _

/-- The positions of the best scores. -/
theorem indices_at (b : Fin 32) (q : Fin 8) :
    val_main_indices (F := Ideal) lp bias (ix2 b q) = BitVec.ofNat 32 (pick lp bias b q).val := by
  unfold val_main_indices
  refine (topK_snd (A := 32) (N := 800000) (K := 8) _ _ _ (by decide) b q).trans ?_
  rw [rank_pick]

/-- The best scores over the length penalty. -/
theorem scores_at (b : Fin 32) (q : Fin 8) :
    (val_main_v8 (F := Ideal) lp bias (ix2 b q) : EReal) = Ideal.div (best lp bias b q) (Ideal.ofBits .f32 0x3FB82491#32) := by
  rw [val_main_v8_apply, val_main_v7_apply, val_main_cst_0_apply, values_at]
  rfl

end Cert.Proof.RefTable
-- ==== Proof.RefWords.lean ====
/- The reference's integer results: quotient, remainder, source rows, histories and the finished flags, read at an index. -/
module

public import proofs.«01_k».proof.Proof.RefTable
public import Idealize.ShloMosaic.Lib.Routing.Words
public import Idealize.ShloMosaic.Lib.Routing.Ops
public import Idealize.ShloMosaic.Lib.ReduceAll

@[expose] public section

noncomputable section

namespace Cert.Proof.RefWords

open Idealize.ShloMosaic Idealize.ShloMosaic.ValueIdx Idealize.SL.Sem
open Cert.ReferenceIdeal Cert.ReferenceIdeal.Gen Cert.ReferenceIdeal.Read Cert.Proof.Spec Cert.Proof.RefTable

/-- The sign of a word. -/
def sgn (x : BitVec 32) : BitVec 32 := if x = 0 then 0 else if x.msb then -1 else 1

/-- A positive small word has sign one. -/
theorem sgn_pos (p : Nat) (h0 : 0 < p) (hp : p < 2 ^ 31) : sgn (BitVec.ofNat 32 p) = 1#32 := by
  have h1 : BitVec.ofNat 32 p ≠ 0 := fun h => by
    have := congrArg BitVec.toNat h
    rw [WordCmp.toNat_ofNat_of_lt (by omega)] at this
    exact absurd this (by simpa using by omega)
  have h2 : (BitVec.ofNat 32 p).msb = false := by
    rw [BitVec.msb_eq_false_iff_two_mul_lt, WordCmp.toNat_ofNat_of_lt (by omega)]
    omega
  unfold sgn
  rw [if_neg h1, h2]
  rfl

/-- Rounding a quotient down: for small nonnegative words the correction never fires. -/
theorem floor_word (p d : Nat) (hp : p < 2 ^ 31) (h0 : 0 < d) (hd : d < 2 ^ 31) (z : BitVec 32) :
    Scalar.select (IntOp.andi (IntOp.cmpi .ne (sgn (BitVec.ofNat 32 p)) (sgn (BitVec.ofNat 32 d)))
        (IntOp.cmpi .ne (IntOp.remsi .host (BitVec.ofNat 32 p) (BitVec.ofNat 32 d)) 0#32)) z
        (IntOp.divsi .host (BitVec.ofNat 32 p) (BitVec.ofNat 32 d)) = BitVec.ofNat 32 (p / d) := by
  rw [Routing.remsi_word _ hp h0 hd, Routing.divsi_word _ hp h0 hd]
  refine WordCmp.select_of_eq_zero ?_ _ _
  by_cases h : p = 0
  · subst h
    rw [Nat.zero_mod, WordCmp.cmpi_ne_eq, WordCmp.cmpi_ne_eq, WordCmp.andi_ofBool]
    have e : (BitVec.ofNat 32 0 : BitVec 32) = 0#32 := rfl
    rw [e, decide_eq_false (p := (0#32 : BitVec 32) ≠ 0#32) (by simp), Bool.and_false]
    rfl
  · rw [sgn_pos p (by omega) hp, sgn_pos d h0 hd, WordCmp.cmpi_ne_eq, WordCmp.cmpi_ne_eq, WordCmp.andi_ofBool,
      decide_eq_false (p := (1#32 : BitVec 32) ≠ 1#32) (by simp), Bool.false_and]
    rfl

/-- The remainder with the divisor's sign: for small nonnegative words the correction never fires. -/
theorem mod_word (p d : Nat) (hp : p < 2 ^ 31) (h0 : 0 < d) (hd : d < 2 ^ 31) (z : BitVec 32) (c : BitVec 1) :
    Scalar.select (IntOp.andi (IntOp.cmpi .ne (IntOp.cmpi .slt (IntOp.remsi .host (BitVec.ofNat 32 p) (BitVec.ofNat 32 d)) 0#32)
        (IntOp.cmpi .slt (BitVec.ofNat 32 d) 0#32)) c) z
        (IntOp.remsi .host (BitVec.ofNat 32 p) (BitVec.ofNat 32 d)) = BitVec.ofNat 32 (p % d) := by
  have hm : p % d < d := Nat.mod_lt _ h0
  rw [Routing.remsi_word _ hp h0 hd]
  refine WordCmp.select_of_eq_zero ?_ _ _
  have e : (0#32 : BitVec 32) = BitVec.ofNat 32 0 := rfl
  rw [e, WordCmp.cmpi_slt_ofNat (by omega) (by omega), WordCmp.cmpi_slt_ofNat (by omega) (by omega),
    decide_eq_false (by omega : ¬ p % d < 0), decide_eq_false (by omega : ¬ d < 0)]
  revert c
  decide

variable (lp : FVec Ideal S256x100000 .f32) (bias : FVec Ideal S256 .f32) (gb : IVec S256x12 32)
variable (b : Fin 32) (q : Fin 8)

/-- The beam of the `q`-th best candidate within its batch. -/
theorem quot_at : val_main_v9 (F := Ideal) lp bias (ix2 b q) = BitVec.ofNat 32 ((pick lp bias b q).val / 100000) := by
  have hp := (pick lp bias b q).isLt
  have e3 : val_main_call0_v3 (F := Ideal) lp bias (ix2 b q) = sgn (val_main_indices (F := Ideal) lp bias (ix2 b q)) := rfl
  have e4 : ∀ i, val_main_call0_v4 (F := Ideal) i = sgn (val_main_call0_v0 (F := Ideal) i) := fun _ => rfl
  rw [val_main_v9_apply, val_main_call0_v11_apply, val_main_call0_v6_apply, e3, val_main_call0_v5_apply, e4,
    val_main_call0_v0_apply, val_main_c_1_apply, val_main_call0_v10_apply, val_main_call0_v8_apply, val_main_call0_v7_apply,
    val_main_call0_v0_apply, val_main_c_1_apply, val_main_call0_v9_apply, val_main_call0_c_apply, val_main_call0_v2_apply,
    val_main_call0_v1_apply, val_main_call0_v0_apply, val_main_c_1_apply, indices_at]
  exact floor_word _ 100000 (by omega) (by decide) (by decide) _

/-- The divisor of the remainder is the vocabulary's size. -/
theorem divisor_at (i : S_.Idx) : val_main_call1_v2 (F := Ideal) i = BitVec.ofNat 32 100000 := by
  rw [val_main_call1_v2_apply, val_main_call1_v1_apply, val_main_call1_v0_apply, val_main_c_2_apply, val_main_call1_c_apply,
    val_main_call1_c_0_apply]
  decide

/-- The token of the `q`-th best candidate. -/
theorem rem_at : val_main_v10 (F := Ideal) lp bias (ix2 b q) = BitVec.ofNat 32 ((pick lp bias b q).val % 100000) := by
  have hp := (pick lp bias b q).isLt
  rw [val_main_v10_apply, val_main_call1_v12_apply, val_main_call1_v11_apply, val_main_call1_v8_apply, val_main_call1_v10_apply,
    val_main_call1_v9_apply, val_main_call1_v7_apply, val_main_call1_c_2_apply, val_main_call1_c_3_apply, val_main_call1_v4_apply,
    val_main_call1_v3_apply, divisor_at, indices_at]
  exact mod_word _ 100000 (by omega) (by decide) (by decide) _ _

/-- The finished flag of the `q`-th best candidate. -/
theorem fin_at : val_main_v24 (F := Ideal) lp bias (ix2 b q) = BitVec.ofBool (decide ((pick lp bias b q).val % 100000 = 2)) := by
  have hm : (pick lp bias b q).val % 100000 < 100000 := Nat.mod_lt _ (by decide)
  rw [val_main_v24_apply, rem_at, val_main_v23_apply, val_main_c_5_apply, show (2#32 : BitVec 32) = BitVec.ofNat 32 2 from rfl,
    WordCmp.cmpi_eq_ofNat (by omega) (by omega)]

/-- The first row of a batch. -/
theorem base_at : val_main_v17 (F := Ideal) (ix2 b q) = BitVec.ofNat 32 (b.val * 8) := by
  rw [val_main_v17_apply, val_main_v16_apply, val_main_v15_apply, val_main_v14_apply, val_main_c_4_apply, val_main_v13_apply,
    val_main_v12_apply, val_main_c_3_apply, val_main_v11_apply]
  show IntOp.addi (BitVec.ofNat 32 0) (IntOp.muli (BitVec.ofNat 32 8) (BitVec.ofNat 32 b.val)) = _
  rw [WordCmp.muli_ofNat, WordCmp.addi_ofNat]
  congr 1
  omega

/-- The number of a beam of a batch, in range. -/
theorem line_lt (b : Fin 32) (q : Fin 8) : b.val * 8 + q.val < 256 := by omega

/-- The source row of the `q`-th best candidate of batch `b`. -/
theorem rows_at : val_main_v19 (F := Ideal) lp bias (ix1 ⟨b.val * 8 + q.val, line_lt b q⟩)
    = BitVec.ofNat 32 ((pick lp bias b q).val / 100000 + b.val * 8) := by
  rw [val_main_v19_apply]
  have e : idx_main_v19 (ix1 ⟨b.val * 8 + q.val, line_lt b q⟩) = ix2 b q := by
    funext a
    match a with
    | ⟨0, _⟩ =>
      refine Fin.ext ?_
      show (b.val * 8 + q.val) / 8 = b.val
      omega
    | ⟨1, _⟩ =>
      refine Fin.ext ?_
      show (b.val * 8 + q.val) % 8 = q.val
      omega
  rw [e, val_main_v18_apply, quot_at, base_at, WordCmp.addi_ofNat]

/-- A row number as a batch and a beam. -/
theorem line_split (r : Fin 256) : ∃ (b : Fin 32) (q : Fin 8), r = ⟨b.val * 8 + q.val, line_lt b q⟩ :=
  ⟨⟨r.val / 8, by omega⟩, ⟨r.val % 8, by omega⟩, Fin.ext (by show r.val = r.val / 8 * 8 + r.val % 8; omega)⟩

/-- Every source row is a small number. -/
theorem rows_small (r : Fin 256) : ∃ n : Nat, n < 256 ∧ val_main_v19 (F := Ideal) lp bias (ix1 r) = BitVec.ofNat 32 n := by
  obtain ⟨b, q, rfl⟩ := line_split r
  have hp := (pick lp bias b q).isLt
  exact ⟨_, by omega, rows_at lp bias b q⟩

/-- The gather's index is the source row: no wrapping of negative indices. -/
theorem take_at (r : Fin 256) : val_main_call2_v5 (F := Ideal) lp bias (ix2 r (0 : Fin 1)) = val_main_v19 (F := Ideal) lp bias (ix1 r) := by
  have e : idx_main_call2_v5 (ix2 r (0 : Fin 1)) = ix1 r := by
    funext a
    match a with
    | ⟨0, _⟩ => rfl
  obtain ⟨n, hn, h⟩ := rows_small lp bias r
  rw [val_main_call2_v5_apply, e, val_main_call2_v4_apply, val_main_call2_v1_apply, val_main_call2_v0_apply, val_main_call2_c_apply, h]
  refine WordCmp.select_of_eq_zero ?_ _ _
  rw [show (0#32 : BitVec 32) = BitVec.ofNat 32 0 from rfl, WordCmp.cmpi_slt_ofNat (by omega) (by omega),
    decide_eq_false (by omega : ¬ n < 0)]
  rfl

/-- Every gathered row is within the table. -/
theorem inside_at (i : S256x1.Idx) : val_main_call2_v11 (F := Ideal) lp bias i = 1#1 := by
  obtain ⟨r, rfl⟩ : ∃ r : Fin 256, i = ix2 r (0 : Fin 1) := ⟨i 0, by
    funext a
    match a with
    | ⟨0, _⟩ => rfl
    | ⟨1, _⟩ => exact Fin.ext (Nat.lt_one_iff.1 (i 1).isLt)⟩
  obtain ⟨n, hn, h⟩ := rows_small lp bias r
  rw [val_main_call2_v11_apply, val_main_call2_v7_apply, val_main_call2_v10_apply, val_main_call2_v6_apply, val_main_call2_c_2_apply,
    val_main_call2_v9_apply, val_main_call2_v8_apply, val_main_call2_c_1_apply, take_at, h,
    show (0#32 : BitVec 32) = BitVec.ofNat 32 0 from rfl, show (255#32 : BitVec 32) = BitVec.ofNat 32 255 from rfl,
    WordCmp.cmpi_sge_ofNat (by omega) (by omega), WordCmp.cmpi_sle_ofNat (by omega) (by omega),
    decide_eq_true (by omega : 0 ≤ n), decide_eq_true (by omega : n ≤ 255)]
  rfl

/-- The gathered history of the `q`-th best candidate of batch `b`. -/
theorem gathered_at (k : Fin 12) : val_main_v20 (F := Ideal) lp bias gb (ix2 ⟨b.val * 8 + q.val, line_lt b q⟩ k)
    = gb (ix2 (row b (pick lp bias b q)) k) := by
  rw [val_main_v20_apply, val_main_call2_v14_apply]
  have h1 : ∀ j, val_main_call2_v12 (F := Ideal) lp bias j = 1#1 := fun j => by
    unfold val_main_call2_v12
    exact Host.reduce_andi_one _ _ _ _ j rfl (inside_at lp bias)
  rw [h1, WordCmp.select_one]
  unfold val_main_call2_v13
  refine Routing.gather_row gather_S256x12_S256x1_S256x12_1_0_n_n_0_1_112 rfl rfl rfl rfl rfl gb _ _ k (row b (pick lp bias b q)) ?_ (by decide)
  rw [take_at, rows_at]
  show BitVec.ofNat 32 _ = BitVec.ofNat 32 (b.val * 8 + (pick lp bias b q).val / 100000)
  rw [Nat.add_comm]

/-- The history part of the new beams. -/
theorem beam_hist (k : Fin 12) : val_main_v22 (F := Ideal) lp bias gb (ix2 ⟨b.val * 8 + q.val, line_lt b q⟩ ⟨k.val, by omega⟩)
    = gb (ix2 (row b (pick lp bias b q)) k) := by
  unfold val_main_v22
  rw [concatenate_pair_apply_left (t := S256x13) (s₁ := S256x12) (s₂ := S256x1) 1 _ _ _ _ rfl
    (ix2 ⟨b.val * 8 + q.val, line_lt b q⟩ k) (fun a => ?_)]
  · exact gathered_at lp bias gb b q k
  · match a with
    | ⟨0, _⟩ => rfl
    | ⟨1, _⟩ => rfl

/-- The last column of the new beams. -/
theorem beam_last : val_main_v22 (F := Ideal) lp bias gb (ix2 ⟨b.val * 8 + q.val, line_lt b q⟩ ⟨12, by omega⟩)
    = BitVec.ofNat 32 ((pick lp bias b q).val % 100000) := by
  unfold val_main_v22
  rw [concatenate_pair_apply_right (t := S256x13) (s₁ := S256x12) (s₂ := S256x1) 1 _ _ _ _ rfl rfl
    (ix2 ⟨b.val * 8 + q.val, line_lt b q⟩ (0 : Fin 1)) (fun a ha => ?_) rfl]
  · rw [val_main_v21_apply]
    have e : idx_main_v21 (ix2 ⟨b.val * 8 + q.val, line_lt b q⟩ (0 : Fin 1)) = ix2 b q := by
      funext a
      match a with
      | ⟨0, _⟩ =>
        refine Fin.ext ?_
        show ((b.val * 8 + q.val) * 1 + 0) / 8 = b.val
        omega
      | ⟨1, _⟩ =>
        refine Fin.ext ?_
        show ((b.val * 8 + q.val) * 1 + 0) % 8 = q.val
        omega
    rw [e, rem_at]
  · match a with
    | ⟨0, _⟩ => rfl
    | ⟨1, _⟩ => exact absurd rfl ha

end Cert.Proof.RefWords
-- ==== Proof.Equal.lean ====
/- The reference's five results are the arrays that the kernel's run leaves. -/
module

public import proofs.«01_k».proof.Proof.KerRun
public import proofs.«01_k».proof.Proof.RefWords

@[expose] public section

noncomputable section

namespace Cert.Proof.Equal

open Idealize.ShloMosaic Idealize.ShloMosaic.ValueIdx Idealize.SL.Sem
open Cert.KernelIdeal Cert.KernelIdeal.Gen Cert.Proof.KerSide Cert.Proof.KerRun Cert.Proof.RefWords
open Cert.ReferenceIdeal.Read

/-- Two grids that agree at every batch and place are equal. -/
theorem grid_ext {α : Type} {x y : S32x8.Idx → α} (h : ∀ (b : Fin 32) (q : Fin 8), x (ix2 b q) = y (ix2 b q)) : x = y := by
  funext i
  have e : i = ix2 (n0 := 32) (n1 := 8) (i 0) (i 1) := by
    funext a
    match a with
    | ⟨0, _⟩ => rfl
    | ⟨1, _⟩ => rfl
  rw [e]
  exact h (i 0) (i 1)

/-- Two lines of rows that agree at every batch and place are equal. -/
theorem line_ext {α : Type} {x y : S256.Idx → α}
    (h : ∀ (b : Fin 32) (q : Fin 8), x (ix1 ⟨b.val * 8 + q.val, line_lt b q⟩) = y (ix1 ⟨b.val * 8 + q.val, line_lt b q⟩)) : x = y := by
  funext i
  obtain ⟨r, rfl⟩ : ∃ r : Fin 256, i = ix1 r := ⟨i 0, by
    funext a
    match a with
    | ⟨0, _⟩ => rfl⟩
  obtain ⟨b, q, rfl⟩ := line_split r
  exact h b q

/-- Two tables of beams that agree on the twelve history columns and on the last column are equal. -/
theorem beams_ext {α : Type} {x y : S256x13.Idx → α}
    (hh : ∀ (b : Fin 32) (q : Fin 8) (k : Fin 12), x (ix2 ⟨b.val * 8 + q.val, line_lt b q⟩ ⟨k.val, by omega⟩)
      = y (ix2 ⟨b.val * 8 + q.val, line_lt b q⟩ ⟨k.val, by omega⟩))
    (ht : ∀ (b : Fin 32) (q : Fin 8), x (ix2 ⟨b.val * 8 + q.val, line_lt b q⟩ ⟨12, by omega⟩)
      = y (ix2 ⟨b.val * 8 + q.val, line_lt b q⟩ ⟨12, by omega⟩)) : x = y := by
  funext i
  obtain ⟨r, k, rfl⟩ : ∃ (r : Fin 256) (k : Fin 13), i = ix2 r k := ⟨i 0, i 1, by
    funext a
    match a with
    | ⟨0, _⟩ => rfl
    | ⟨1, _⟩ => rfl⟩
  obtain ⟨b, q, rfl⟩ := line_split r
  by_cases hk : k.val < 12
  · exact hh b q ⟨k.val, hk⟩
  · have e : k = ⟨12, by omega⟩ := Fin.ext (by show k.val = 12; omega)
    rw [e]
    exact ht b q

variable (m : (ℓ : Loc nD τ sig) → Buf (Elt Ideal) ℓ) (c : Dev nD)

/-- The best scores. -/
theorem eq0 : val_main_values (F := Ideal) (lpOf m c) (biasOf m c)
    = Pipeline.afterTail₀ cfgs (dats m) 0 (V0 m) [hostOps1] c main_v5 :=
  grid_ext fun b q => (RefTable.values_at _ _ b q).trans (ker0 m c b q).symm

/-- The best scores over the length penalty. -/
theorem eq1 : val_main_v8 (F := Ideal) (lpOf m c) (biasOf m c)
    = Pipeline.afterTail₀ cfgs (dats m) 0 (V0 m) [hostOps1] c main_v6 :=
  grid_ext fun b q => (RefTable.scores_at _ _ b q).trans (ker1 m c b q).symm

/-- The new beams. -/
theorem eq2 : val_main_v22 (F := Ideal) (lpOf m c) (biasOf m c) (gbOf m c) = (dats m 0 c).arrAt 5 cfg0.N :=
  beams_ext (fun b q k => (beam_hist _ _ _ b q k).trans (ker2h m c b q k (line_lt b q)).symm)
    (fun b q => (beam_last _ _ _ b q).trans (ker2t m c b q (line_lt b q)).symm)

/-- The source rows. -/
theorem eq3 : val_main_v19 (F := Ideal) (lpOf m c) (biasOf m c)
    = Pipeline.afterTail₀ cfgs (dats m) 0 (V0 m) [hostOps1] c main_v7 :=
  line_ext fun b q => (rows_at _ _ b q).trans (ker3 m c b q (line_lt b q)).symm

/-- The finished flags. -/
theorem eq4 : val_main_v24 (F := Ideal) (lpOf m c) (biasOf m c)
    = Pipeline.afterTail₀ cfgs (dats m) 0 (V0 m) [hostOps1] c main_v8 :=
  grid_ext fun b q => (fin_at _ _ b q).trans (ker4 m c b q).symm

/-- The kernel's run: its results are the arrays above, and its arguments end unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v5) = Pipeline.afterTail₀ cfgs (dats m) 0 (V0 m) [hostOps1] c main_v5
      ∧ r.2.mem ((c.tc : Thread nD τ).loc main_v6) = Pipeline.afterTail₀ cfgs (dats m) 0 (V0 m) [hostOps1] c main_v6
      ∧ r.2.mem ((c.tc : Thread nD τ).loc main_v1_2) = (dats m 0 c).arrAt 5 cfg0.N
      ∧ r.2.mem ((c.tc : Thread nD τ).loc main_v7) = Pipeline.afterTail₀ cfgs (dats m) 0 (V0 m) [hostOps1] c main_v7
      ∧ r.2.mem ((c.tc : Thread nD τ).loc main_v8) = Pipeline.afterTail₀ cfgs (dats m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1 c).2 main_v5 (Pipeline.mem_restRefs_of main_v5 (by decide) (by decide)),
     (h.1 c).2 main_v6 (Pipeline.mem_restRefs_of main_v6 (by decide) (by decide)),
     (h.1 c).1 5,
     (h.1 c).2 main_v7 (Pipeline.mem_restRefs_of main_v7 (by decide) (by decide)),
     (h.1 c).2 main_v8 (Pipeline.mem_restRefs_of main_v8 (by decide) (by decide)),
     (h.2 c).1, (h.2 c).2.1, (h.2 c).2.2⟩)
    (θ_run_and (run_main m g) (Gen.unchanged m g))

end Cert.Proof.Equal
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal

@[expose] public section

noncomputable section

namespace Cert.Proof

open Idealize.ShloMosaic Idealize.SL.Sem

/-- The reference runs, leaves its arguments unchanged and has no semaphore that could end nonzero. -/
theorem frame_reference : Cert.quiescent_ReferenceIdeal := fun m g _ =>
  (θ_run Cert.ReferenceIdeal.defs _ _).mono (fun _ h => ⟨fun c => (h c).2.2.2.2.2, funext fun s => nomatch s.2⟩)
    (Cert.ReferenceIdeal.Value.run (F := Ideal) m g)

/-- Kernel and reference end with equal results on equal arguments. -/
theorem equal_results : Cert.algebraic_KernelIdeal_ReferenceIdeal := by
  intro m g m' g' _ hagree
  refine ⟨_, _, _, _, _, Equal.kernel_run m g, ?_⟩
  refine (θ_run Cert.ReferenceIdeal.defs _ _).mono (fun _ h c => ?_) (Cert.ReferenceIdeal.Value.run (F := Ideal) m' g')
  obtain ⟨h0, h1, h2, h3, h4, ha⟩ := h c
  obtain ⟨a0, a1, a2⟩ := hagree c
  refine ⟨h0.trans ?_, h1.trans ?_, h2.trans ?_, h3.trans ?_, h4.trans ?_, ha⟩
  · rw [Cert.ReferenceIdeal.Read.val_main_values_eq, a0, a1]
    exact Equal.eq0 m c
  · rw [Cert.ReferenceIdeal.Read.val_main_v8_eq, a0, a1]
    exact Equal.eq1 m c
  · rw [Cert.ReferenceIdeal.Read.val_main_v22_eq, a0, a1, a2]
    exact Equal.eq2 m c
  · rw [Cert.ReferenceIdeal.Read.val_main_v19_eq, a0, a1]
    exact Equal.eq3 m c
  · rw [Cert.ReferenceIdeal.Read.val_main_v24_eq, a0, a1]
    exact Equal.eq4 m c

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, equal_results⟩

end Cert.Proof

end
